-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2, 2] ![[0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![512, 512]⟩ ⟨2, ![1024, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S_ : Shape := ⟨0, ![]⟩

class Facts : Prop where
  bcast_S_S512 : S_.BroadcastsInDim S512 (![] : Fin 0 → Fin S512.rank)
  natLt_1_32 : 1 < 32
  reducesTo_S512_S_d0 : S512.ReducesTo [0] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x512 .f32) (main_arg1 : IVec S512 32) (main_arg2 : FVec F S2x512x1024 .f32) (main_arg3 : FVec F S2x1024x512 .f32) : IVec S_ 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 2#32
  let main_v2 : IVec S512 32 := broadcastInDim S512 ![] bcast_S_S512 main_c_0
  let main_v3 : IVec S512 1 := cmpi .slt main_arg1 main_v2
  let main_v4 : IVec S512 1 := andi main_v1 main_v3
  let main_c_1 : IVec S_ 32 := constantI S_ 32 2#32
  let main_v5 : IVec S512 32 := broadcastInDim S512 ![] bcast_S_S512 main_c_1
  let main_v6 : IVec S512 1 := cmpi .sge main_arg1 main_v5
  let main_c_2 : IVec S_ 32 := constantI S_ 32 4#32
  let main_v7 : IVec S512 32 := broadcastInDim S512 ![] bcast_S_S512 main_c_2
  let main_v8 : IVec S512 1 := cmpi .slt main_arg1 main_v7
  let main_v9 : IVec S512 1 := andi main_v6 main_v8
  let main_v10 : IVec S512 32 := (extui 32 · natLt_1_32) main_v4
  let main_c_3 : IVec S_ 32 := constantI S_ 32 0#32
  let main_v11 : IVec S_ 32 := (fun x v => Host.reduce IntOp.addi x v reducesTo_S512_S_d0 h_S_) main_v10 main_c_3
  let main_c_4 : IVec S_ 32 := constantI S_ 32 320#32
  let main_v12 : IVec S_ 1 := cmpi .sle main_v11 main_c_4
  let main_v13 : IVec S512 32 := (extui 32 · natLt_1_32) main_v9
  let main_c_5 : IVec S_ 32 := constantI S_ 32 0#32
  let main_v14 : IVec S_ 32 := (fun x v => Host.reduce IntOp.addi x v reducesTo_S512_S_d0 h_S_) main_v13 main_c_5
  let main_c_6 : IVec S_ 32 := constantI S_ 32 320#32
  let main_v15 : IVec S_ 1 := cmpi .sle main_v14 main_c_6
  fn_part1 (F := F) main_v12 main_v15
-- ==== Pre_fits_ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S_ : Shape := ⟨0, ![]⟩

class Facts : Prop where
  bcast_S_S1024 : S_.BroadcastsInDim S1024 (![] : Fin 0 → Fin S1024.rank)
  natLt_1_32 : 1 < 32
  reducesTo_S1024_S_d0 : S1024.ReducesTo [0] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x512 .f32) (main_arg1 : IVec S1024 32) (main_arg2 : FVec F S4x512x1024 .f32) (main_arg3 : FVec F S4x1024x512 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 2#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 32 := constantI S_ 32 2#32
  let main_v5 : IVec S1024 32 := broadcastInDim S1024 ![] bcast_S_S1024 main_c_1
  let main_v6 : IVec S1024 1 := cmpi .sge main_arg1 main_v5
  let main_c_2 : IVec S_ 32 := constantI S_ 32 4#32
  let main_v7 : IVec S1024 32 := broadcastInDim S1024 ![] bcast_S_S1024 main_c_2
  let main_v8 : IVec S1024 1 := cmpi .slt main_arg1 main_v7
  let main_v9 : IVec S1024 1 := andi main_v6 main_v8
  let main_v10 : IVec S1024 32 := (extui 32 · natLt_1_32) main_v4
  let main_c_3 : IVec S_ 32 := constantI S_ 32 0#32
  let main_v11 : IVec S_ 32 := (fun x v => Host.reduce IntOp.addi x v reducesTo_S1024_S_d0 h_S_) main_v10 main_c_3
  let main_c_4 : IVec S_ 32 := constantI S_ 32 320#32
  let main_v12 : IVec S_ 1 := cmpi .sle main_v11 main_c_4
  let main_v13 : IVec S1024 32 := (extui 32 · natLt_1_32) main_v9
  let main_c_5 : IVec S_ 32 := constantI S_ 32 0#32
  let main_v14 : IVec S_ 32 := (fun x v => Host.reduce IntOp.addi x v reducesTo_S1024_S_d0 h_S_) main_v13 main_c_5
  let main_c_6 : IVec S_ 32 := constantI S_ 32 320#32
  let main_v15 : IVec S_ 1 := cmpi .sle main_v14 main_c_6
  fn_part1 (F := F) main_v12 main_v15
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S512x1 : Shape := ⟨2, ![512, 1]⟩
abbrev S1x512 : Shape := ⟨2, ![1, 512]⟩
abbrev S320x512 : Shape := ⟨2, ![320, 512]⟩
abbrev S320x1 : Shape := ⟨2, ![320, 1]⟩
abbrev S9 : Shape := ⟨1, ![9]⟩
abbrev S_ : Shape := ⟨0, ![]⟩
abbrev S1 : Shape := ⟨1, ![1]⟩
abbrev S80x512 : Shape := ⟨2, ![80, 512]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S80x1 : Shape := ⟨2, ![80, 1]⟩
abbrev S80x1024 : Shape := ⟨2, ![80, 1024]⟩

abbrev nBuf : Space → Nat
  | .hbm => 7
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S2x512x1024, .f32⟩
  | .hbm, ⟨3, _⟩ => ⟨S2x1024x512, .f32⟩
  | .hbm, ⟨4, _⟩ => ⟨S512x1, .i32⟩
  | .hbm, ⟨5, _⟩ => ⟨S1x512, .i32⟩
  | .hbm, ⟨6, _⟩ => ⟨S512x512, .f32⟩
  | .local _ .vmem, ⟨0, _⟩ => ⟨S512x512, .f32⟩
  | .local _ .vmem, ⟨1, _⟩ => ⟨S512x1, .i32⟩
  | .local _ .vmem, ⟨2, _⟩ => ⟨S1x512, .i32⟩
  | .local _ .vmem, ⟨3, _⟩ => ⟨S2x512x1024, .f32⟩
  | .local _ .vmem, ⟨4, _⟩ => ⟨S2x1024x512, .f32⟩
  | .local _ .vmem, ⟨5, _⟩ => ⟨S512x512, .f32⟩
  | .local _ .vmem, ⟨6, _⟩ => ⟨S320x512, .bf16⟩
  | .local _ .vmem, ⟨7, _⟩ => ⟨S320x512, .bf16⟩
  | .local _ .vmem, ⟨8, _⟩ => ⟨S320x1, .f32⟩
  | .local _ .vmem, ⟨9, _⟩ => ⟨S320x1, .f32⟩
  | .local _ .vmem, ⟨10, _⟩ => ⟨S320x512, .bf16⟩
  | .local _ .vmem, ⟨11, _⟩ => ⟨S320x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_30 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_29 : BitVec 32 := 4#32
  let v60 : BitVec 32 := Scalar.muli v9 c4_i32_29
  let v61 : BitVec 32 := Scalar.addi c0_i32_30 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v62 : BitVec 32 := Scalar.muli v5 c2_i32_31
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v64 : BitVec 32 := Scalar.muli v8 c1_i32_32
  let v65 : BitVec 32 := Scalar.addi v63 v64
  v65.toNat
def k0_dev3 (d0 : Dev nD) : Nat :=
  let c0_i32_39 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_38 : BitVec 32 := 4#32
  let v76 : BitVec 32 := Scalar.muli v9 c4_i32_38
  let v77 : BitVec 32 := Scalar.addi c0_i32_39 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v78 : BitVec 32 := Scalar.muli v5 c2_i32_40
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v80 : BitVec 32 := Scalar.muli v8 c1_i32_41
  let v81 : BitVec 32 := Scalar.addi v79 v80
  v81.toNat
def k0_dev4 (d0 : Dev nD) : Nat :=
  let c0_i32_51 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_50 : BitVec 32 := 4#32
  let v94 : BitVec 32 := Scalar.muli v9 c4_i32_50
  let v95 : BitVec 32 := Scalar.addi c0_i32_51 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v96 : BitVec 32 := Scalar.muli v5 c2_i32_52
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v98 : BitVec 32 := Scalar.muli v8 c1_i32_53
  let v99 : BitVec 32 := Scalar.addi v97 v98
  v99.toNat
def k0_dev5 (d0 : Dev nD) : Nat :=
  let c0_i32_61 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_60 : BitVec 32 := 4#32
  let v112 : BitVec 32 := Scalar.muli v9 c4_i32_60
  let v113 : BitVec 32 := Scalar.addi c0_i32_61 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v114 : BitVec 32 := Scalar.muli v5 c2_i32_62
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v116 : BitVec 32 := Scalar.muli v8 c1_i32_63
  let v117 : BitVec 32 := Scalar.addi v115 v116
  v117.toNat
def k0_dev6 (d0 : Dev nD) : Nat :=
  let c0_i32_72 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_71 : BitVec 32 := 4#32
  let v130 : BitVec 32 := Scalar.muli v9 c4_i32_71
  let v131 : BitVec 32 := Scalar.addi c0_i32_72 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v132 : BitVec 32 := Scalar.muli v5 c2_i32_73
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v134 : BitVec 32 := Scalar.muli v8 c1_i32_74
  let v135 : BitVec 32 := Scalar.addi v133 v134
  v135.toNat
def k0_dev7 (d0 : Dev nD) : Nat :=
  let c0_i32_138 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_137 : BitVec 32 := 4#32
  let v249 : BitVec 32 := Scalar.muli v9 c4_i32_137
  let v250 : BitVec 32 := Scalar.addi c0_i32_138 v249
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v251 : BitVec 32 := Scalar.muli v5 c2_i32_139
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v253 : BitVec 32 := Scalar.muli v8 c1_i32_140
  let v254 : BitVec 32 := Scalar.addi v252 v253
  v254.toNat
def k0_dev8 (d0 : Dev nD) : Nat :=
  let c0_i32_175 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_174 : BitVec 32 := 4#32
  let v314 : BitVec 32 := Scalar.muli v9 c4_i32_174
  let v315 : BitVec 32 := Scalar.addi c0_i32_175 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_176 : BitVec 32 := 2#32
  let v316 : BitVec 32 := Scalar.muli v5 c2_i32_176
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v318 : BitVec 32 := Scalar.muli v8 c1_i32_177
  let v319 : BitVec 32 := Scalar.addi v317 v318
  v319.toNat
def k0_dev9 (d0 : Dev nD) : Nat :=
  let c0_i32_212 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_211 : BitVec 32 := 4#32
  let v379 : BitVec 32 := Scalar.muli v9 c4_i32_211
  let v380 : BitVec 32 := Scalar.addi c0_i32_212 v379
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v381 : BitVec 32 := Scalar.muli v5 c2_i32_213
  let v382 : BitVec 32 := Scalar.addi v380 v381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_214 : BitVec 32 := 1#32
  let v383 : BitVec 32 := Scalar.muli v8 c1_i32_214
  let v384 : BitVec 32 := Scalar.addi v382 v383
  v384.toNat
def k0_dev10 (d0 : Dev nD) : Nat :=
  let c0_i32_249 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_248 : BitVec 32 := 4#32
  let v444 : BitVec 32 := Scalar.muli v9 c4_i32_248
  let v445 : BitVec 32 := Scalar.addi c0_i32_249 v444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_250 : BitVec 32 := 2#32
  let v446 : BitVec 32 := Scalar.muli v5 c2_i32_250
  let v447 : BitVec 32 := Scalar.addi v445 v446
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_251 : BitVec 32 := 1#32
  let v448 : BitVec 32 := Scalar.muli v8 c1_i32_251
  let v449 : BitVec 32 := Scalar.addi v447 v448
  v449.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S1024x1 : Shape := ⟨2, ![1024, 1]⟩
abbrev S1x1024x512 : Shape := ⟨3, ![1, 1024, 512]⟩

abbrev nBuf : Space → Nat
  | .hbm => 66
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S4x512x1024, .f32⟩
  | .hbm, ⟨3, _⟩ => ⟨S4x1024x512, .f32⟩
  | .hbm, ⟨4, _⟩ => ⟨S_, .f32⟩
  | .hbm, ⟨5, _⟩ => ⟨S1024x512, .f32⟩
  | .hbm, ⟨6, _⟩ => ⟨S1x512x1024, .f32⟩
  | .hbm, ⟨7, _⟩ => ⟨S512x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024x1, .i1⟩
  | .hbm, ⟨16, _⟩ => ⟨S1x1024x512, .f32⟩
  | .hbm, ⟨17, _⟩ => ⟨S1024x512, .f32⟩
  | .hbm, ⟨18, _⟩ => ⟨S1024x512, .f32⟩
  | .hbm, ⟨19, _⟩ => ⟨S1024x512, .i1⟩
  | .hbm, ⟨20, _⟩ => ⟨S1024x512, .f32⟩
  | .hbm, ⟨21, _⟩ => ⟨S1x512x1024, .f32⟩
  | .hbm, ⟨22, _⟩ => ⟨S512x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S1024x1, .i1⟩
  | .hbm, ⟨31, _⟩ => ⟨S1x1024x512, .f32⟩
  | .hbm, ⟨32, _⟩ => ⟨S1024x512, .f32⟩
  | .hbm, ⟨33, _⟩ => ⟨S1024x512, .f32⟩
  | .hbm, ⟨34, _⟩ => ⟨S1024x512, .i1⟩
  | .hbm, ⟨35, _⟩ => ⟨S1024x512, .f32⟩
  | .hbm, ⟨36, _⟩ => ⟨S1x512x1024, .f32⟩
  | .hbm, ⟨37, _⟩ => ⟨S512x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S1024x1, .i1⟩
  | .hbm, ⟨46, _⟩ => ⟨S1x1024x512, .f32⟩
  | .hbm, ⟨47, _⟩ => ⟨S1024x512, .f32⟩
  | .hbm, ⟨48, _⟩ => ⟨S1024x512, .f32⟩
  | .hbm, ⟨49, _⟩ => ⟨S1024x512, .i1⟩
  | .hbm, ⟨50, _⟩ => ⟨S1024x512, .f32⟩
  | .hbm, ⟨51, _⟩ => ⟨S1x512x1024, .f32⟩
  | .hbm, ⟨52, _⟩ => ⟨S512x1024, .f32⟩
  | .hbm, ⟨53, _⟩ => ⟨S1024x1024, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S1024x1, .i1⟩
  | .hbm, ⟨61, _⟩ => ⟨S1x1024x512, .f32⟩
  | .hbm, ⟨62, _⟩ => ⟨S1024x512, .f32⟩
  | .hbm, ⟨63, _⟩ => ⟨S1024x512, .f32⟩
  | .hbm, ⟨64, _⟩ => ⟨S1024x512, .i1⟩
  | .hbm, ⟨65, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Values.lean ====
/- What every device computes in one run of the kernel, as functions of the devices' inputs: the rows it gathers for
   its peer, the rows it returns, and the running output. Nothing here mentions memory or semaphores. -/
module

public import proofs.«01_k».proof.Proof.Gen.KernelIdeal
public import proofs.«01_k».proof.Proof.Gen.KernelIdeal.Skeleton

@[expose] public section

noncomputable section

namespace Cert.Moe

open Cert.KernelIdeal Cert.KernelIdeal.Gen
open Idealize.ShloMosaic Idealize.ShloMosaic.TcCoe

variable {F : FTy → Type} [FloatOps F]

set_option backward.proofsInPublic true in
/-- The device a device exchanges with: the one across the first mesh axis. -/
def peer (c : Dev nD) : Dev nD := ⟨(c.val + 4) % 8, Nat.mod_lt _ (by decide)⟩

/-- The peer's peer is the device itself. -/
theorem peer_peer (c : Dev nD) : peer (peer c) = c := by revert c; decide

/-- Exchanging with the peer, as a permutation of the devices. -/
def peerEquiv : Dev nD ≃ Dev nD := ⟨peer, peer, peer_peer, peer_peer⟩

/-- The five windows' contents on every device: the token rows, the assignments as a column and as a row, the two
    weight stacks of the device's experts. -/
structure Inp (F : FTy → Type) where
  x : Dev nD → Vec F S512x512 .f32
  acol : Dev nD → Vec F S512x1 .i32
  arow : Dev nD → Vec F S1x512 .i32
  w1 : Dev nD → Vec F S2x512x1024 .f32
  w2 : Dev nD → Vec F S2x1024x512 .f32

variable (I : Inp F) (c : Dev nD)

/-- The half of the mesh a device is in, as the program computes it. -/
abbrev half : BitVec 32 := Scalar.remsi (Scalar.divsi (Dev.word c) 4#32) 2#32
abbrev zeroF : F .f32 := Scalar.ofBits .f32 0x00000000#32
/-- Which tokens go to the peer's experts, as a row of zeros and ones. -/
abbrev mrow : FVec F S1x512 .f32 := k0_pay1 c (I.arow c)
/-- The gathering matrix. -/
abbrev gat : FVec F S320x512 .bf16 := k0_pay5 (mrow I c) k0_pay2 zeroF (k0_pay3 (F := F))
abbrev xb : FVec F S512x512 .bf16 := k0_pay6 (I.x c)
/-- The assignments of the gathered tokens. -/
def asg : Vec F S320x1 .f32 := k0_pay7 (mrow I c) k0_pay2 zeroF (k0_pay3 (F := F)) (I.acol c)
/-- The gathered rows, in four chunks of eighty. -/
def xsv : Fin 4 → Vec F S80x512 .bf16
  | 0 => k0_pay9 (k0_pay8 (mrow I c) k0_pay2 zeroF (k0_pay3 (F := F)) (I.x c))
  | 1 => k0_pay10 (gat I c) (xb I c)
  | 2 => k0_pay11 (gat I c) (xb I c)
  | 3 => k0_pay12 (gat I c) (xb I c)
abbrev w1b : FVec F S2x512x1024 .bf16 := k0_pay13 (I.w1 c)
abbrev w2b : FVec F S2x1024x512 .bf16 := k0_pay14 (I.w2 c)
/-- What the device's own two experts contribute to its own tokens. -/
def out0 : Vec F S512x512 .f32 :=
  k0_pay18 (xb I c) (w1b I c) (w2b I c) (k0_pay15 (half c) (xb I c) (I.w1 c) (I.w2 c) (I.acol c)) (k0_pay16 (half c) (I.acol c)) (k0_pay17 (F := F))
/-- The assignments of one chunk of gathered tokens. -/
def asgv : Fin 4 → Vec F S80x1 .f32
  | 0 => fun j => asg I c ((Rect.unit (s := S320x1) ![0, 0] S80x1.size inb_S320x1_S80x1_0_0).emb j)
  | 1 => fun j => asg I c ((Rect.unit (s := S320x1) ![80, 0] S80x1.size inb_S320x1_S80x1_80_0).emb j)
  | 2 => fun j => asg I c ((Rect.unit (s := S320x1) ![160, 0] S80x1.size inb_S320x1_S80x1_160_0).emb j)
  | 3 => fun j => asg I c ((Rect.unit (s := S320x1) ![240, 0] S80x1.size inb_S320x1_S80x1_240_0).emb j)
/-- What the device's experts make of the chunks it receives from its peer. -/
def ret : Fin 4 → Vec F S80x512 .bf16
  | 0 => k0_pay19 (half c) (w1b I c) (w2b I c) (xsv I (peer c) 0) (asgv I (peer c) 0)
  | 1 => k0_pay22 (half c) (w1b I c) (w2b I c) (xsv I (peer c) 1) (asgv I (peer c) 1)
      (k0_pay20 (half c) (xsv I (peer c) 1) (asgv I (peer c) 1)) (k0_pay21 (w1b I c))
  | 2 => k0_pay24 (w1b I c) (w2b I c) (xsv I (peer c) 2) (asgv I (peer c) 2)
      (k0_pay23 (half c) (w1b I c) (w2b I c) (xsv I (peer c) 2) (asgv I (peer c) 2)) (Scalar.addi (Scalar.muli (half c) 2#32) 1#32)
  | 3 => k0_pay28 (w2b I c) (k0_pay25 (half c) (w1b I c) (w2b I c) (xsv I (peer c) 3) (asgv I (peer c) 3))
      (k0_pay26 (half c) (w1b I c) (xsv I (peer c) 3) (asgv I (peer c) 3)) (k0_pay27 (F := F))
/-- The output after each returned chunk is added to it. -/
def out1 : Vec F S512x512 .f32 := k0_pay29 (gat I c) (ret I (peer c) 0) (out0 I c)
/-- The output after the rows of the second chunk are added, -/
def out2 : Vec F S512x512 .f32 := k0_pay30 (gat I c) (ret I (peer c) 1) (out1 I c)
/-- after those of the third, -/
def out3 : Vec F S512x512 .f32 := k0_pay31 (gat I c) (ret I (peer c) 2) (out2 I c)
/-- and after those of the fourth: the result. -/
def out4 : Vec F S512x512 .f32 := k0_pay32 (gat I c) (ret I (peer c) 3) (out3 I c)

end Cert.Moe

end
-- ==== Proof.Proto.lean ====
/- The exchange protocol of the kernel, over any float values: which semaphore hands over what. A device signals its
   peer's barrier with its own landing buffers; each of the nine transfers then lands in one of them. -/
module

public import proofs.«01_k».proof.Proof.Values
public import proofs.«01_k».proof.Proof.Gen.KernelIdeal.Launch
public import Idealize.ShloMosaic.Lib.Pipeline.Regions
public import Idealize.ShloMosaic.Lib.Pipeline.Kit
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's copy of the rounds algebra. -/
abbrev UB : Type := URounds (GSem nD τ sig) Unit
/-- The pipeline library's copy beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

abbrev mX : Memref sig .tc .vmem S512x512 .f32 := Memref.whole cc0_stg0_0
abbrev mC : Memref sig .tc .vmem S512x1 .i32 := Memref.whole cc0_stg1_0
abbrev mR : Memref sig .tc .vmem S1x512 .i32 := Memref.whole cc0_stg2_0
abbrev mW1 : Memref sig .tc .vmem S2x512x1024 .f32 := Memref.whole cc0_stg3_0
abbrev mW2 : Memref sig .tc .vmem S2x1024x512 .f32 := Memref.whole cc0_stg4_0
abbrev mO : Memref sig .tc .vmem S512x512 .f32 := Memref.whole cc0_stg5_0
/-- The gathered rows; where the peer's land. -/
abbrev mS : Memref sig .tc .vmem S320x512 .bf16 := Memref.whole cc0_scratch0
abbrev mL : Memref sig .tc .vmem S320x512 .bf16 := Memref.whole cc0_scratch1
/-- The gathered assignments; where the peer's land. -/
abbrev mA : Memref sig .tc .vmem S320x1 .f32 := Memref.whole cc0_scratch2
abbrev mB : Memref sig .tc .vmem S320x1 .f32 := Memref.whole cc0_scratch3
/-- The rows to return; where the returned ones land. -/
abbrev mT : Memref sig .tc .vmem S320x512 .bf16 := Memref.whole cc0_scratch4
abbrev mU : Memref sig .tc .vmem S320x512 .bf16 := Memref.whole cc0_scratch5

/-- Eighty rows of a buffer of 320, by chunk. -/
abbrev rc0 : Rect S320x512 := Rect.unit (s := S320x512) ![0, 0] S80x512.size inb_S320x512_S80x512_0_0
abbrev rc1 : Rect S320x512 := Rect.unit (s := S320x512) ![80, 0] S80x512.size inb_S320x512_S80x512_80_0
abbrev rc2 : Rect S320x512 := Rect.unit (s := S320x512) ![160, 0] S80x512.size inb_S320x512_S80x512_160_0
abbrev rc3 : Rect S320x512 := Rect.unit (s := S320x512) ![240, 0] S80x512.size inb_S320x512_S80x512_240_0

abbrev ch0 (m : Memref sig .tc .vmem S320x512 .bf16) : Memref sig .tc .vmem S80x512 .bf16 := m.slice rc0 (fun _ => rfl)
abbrev ch1 (m : Memref sig .tc .vmem S320x512 .bf16) : Memref sig .tc .vmem S80x512 .bf16 := m.slice rc1 (fun _ => rfl)
abbrev ch2 (m : Memref sig .tc .vmem S320x512 .bf16) : Memref sig .tc .vmem S80x512 .bf16 := m.slice rc2 (fun _ => rfl)
abbrev ch3 (m : Memref sig .tc .vmem S320x512 .bf16) : Memref sig .tc .vmem S80x512 .bf16 := m.slice rc3 (fun _ => rfl)

/-- A device owns a buffer whole and reads the given contents of it. -/
abbrev own (c : Dev nD) {sh : Shape} {e : EltTy} (m : Memref sig .tc .vmem sh e) (X : sh.Idx → Elt F e) : sProp 𝕄 :=
  owns (c : Thread nD τ) m fullShare X
/-- The same at contents nobody knows. -/
def any (c : Dev nD) {sh : Shape} {e : EltTy} (m : Memref sig .tc .vmem sh e) : sProp 𝕄 := iprop(∃ X, own c m X)

instance any_storable (c : Dev nD) {sh : Shape} {e : EltTy} (m : Memref sig .tc .vmem sh e) :
    BI.Storable (upEmb : UEmb _ 𝕄) (any c m) := by unfold any; infer_instance

/-- Known contents are some contents. -/
theorem own_any (c : Dev nD) {sh : Shape} {e : EltTy} (m : Memref sig .tc .vmem sh e) (X : sh.Idx → Elt F e) :
    (own c m X : sProp 𝕄) ⊢ any c m := by unfold any; iintro H; iexists X; iexact H

/-! ## Cells -/

abbrev barS : Sem sig := (SemArray.scalar (sig.barrier 0 rfl) : Sems sig S_).sem
set_option backward.proofsInPublic true in
/-- The semaphores that count what has left, and those that count what has landed, by transfer. -/
def sndS (k : Fin 9) : DmaSem sig := ⟨6 + k.val, by have := k.isLt; show 6 + k.val < 24; omega⟩
set_option backward.proofsInPublic true in
def rcvS (k : Fin 9) : DmaSem sig := ⟨15 + k.val, by have := k.isLt; show 15 + k.val < 24; omega⟩

abbrev barC (c : Dev nD) : GSem nD τ sig := ((c : Thread nD τ), .reg barS)
abbrev sndC (c : Dev nD) (k : Fin 9) : GSem nD τ sig := ((c : Thread nD τ), .dma (sndS k))
abbrev rcvC (c : Dev nD) (k : Fin 9) : GSem nD τ sig := ((c : Thread nD τ), .dma (rcvS k))

/-- What each transfer credits. -/
abbrev N0 : ℕ := mB.view.dmaCredit
abbrev N1 : ℕ := (ch0 mL).view.dmaCredit
/-- The amount a copy moves. -/
def amt (k : Fin 9) : ℕ := if k = 0 then N0 else N1
/-- Every copy moves something. -/
theorem amt_pos (k : Fin 9) : 0 < amt k := by
  unfold amt; split
  · exact View.dmaCredit_pos _ (by decide)
  · exact View.dmaCredit_pos _ (by decide)

/-! ## What the cells hand over -/

section Pay

variable (I : Inp F)

/-- Transfer `k`'s landing buffer on device `d`, at anything. -/
def landAny (d : Dev nD) : Fin 9 → sProp 𝕄
  | 0 => any d mB
  | 1 => any d (ch0 mL)
  | 2 => any d (ch1 mL)
  | 3 => any d (ch2 mL)
  | 4 => any d (ch3 mL)
  | 5 => any d (ch0 mU)
  | 6 => any d (ch1 mU)
  | 7 => any d (ch2 mU)
  | 8 => any d (ch3 mU)

/-- Transfer `k`'s source on device `c`, at what it sends. -/
def srcPay (c : Dev nD) : Fin 9 → sProp 𝕄
  | 0 => own c mA (asg I c)
  | 1 => own c (ch0 mS) (xsv I c 0)
  | 2 => own c (ch1 mS) (xsv I c 1)
  | 3 => own c (ch2 mS) (xsv I c 2)
  | 4 => own c (ch3 mS) (xsv I c 3)
  | 5 => own c (ch0 mT) (ret I c 0)
  | 6 => own c (ch1 mT) (ret I c 1)
  | 7 => own c (ch2 mT) (ret I c 2)
  | 8 => own c (ch3 mT) (ret I c 3)

/-- Transfer `k`'s landing buffer on device `d`, at what device `p` sends. -/
def rcvPay (d p : Dev nD) : Fin 9 → sProp 𝕄
  | 0 => own d mB (asg I p)
  | 1 => own d (ch0 mL) (xsv I p 0)
  | 2 => own d (ch1 mL) (xsv I p 1)
  | 3 => own d (ch2 mL) (xsv I p 2)
  | 4 => own d (ch3 mL) (xsv I p 3)
  | 5 => own d (ch0 mU) (ret I p 0)
  | 6 => own d (ch1 mU) (ret I p 1)
  | 7 => own d (ch2 mU) (ret I p 2)
  | 8 => own d (ch3 mU) (ret I p 3)

instance landAny_storable (d : Dev nD) (k : Fin 9) : BI.Storable (upEmb : UEmb _ 𝕄) (landAny (F := F) d k) := by
  fin_cases k <;> (dsimp only [landAny]; infer_instance)
instance srcPay_storable (d : Dev nD) (k : Fin 9) : BI.Storable (upEmb : UEmb _ 𝕄) (srcPay I d k) := by
  fin_cases k <;> (dsimp only [srcPay]; infer_instance)
instance rcvPay_storable (d p : Dev nD) (k : Fin 9) : BI.Storable (upEmb : UEmb _ 𝕄) (rcvPay I d p k) := by
  fin_cases k <;> (dsimp only [rcvPay]; infer_instance)

/-- What the peer's signal hands a device: the peer's landing buffers, and that its landing cells are at their start. -/
def barPay (c : Dev nD) : sProp 𝕄 :=
  bigSep Finset.univ fun k : Fin 9 => iprop(landAny (peer c) k ∗ reached ER (rcvC (peer c) k) 0)

instance barPay_storable (c : Dev nD) : BI.Storable (upEmb : UEmb _ 𝕄) (barPay (F := F) c) := by
  unfold barPay; infer_instance

set_option backward.proofsInPublic true in
/-- What a transfer's cell hands its device: a sending cell the source back, a landing cell what landed. -/
def dmaPay (c : Dev nD) (d : DmaSem sig) : sProp 𝕄 :=
  if h : 15 ≤ d.val then rcvPay I c (peer c) ⟨d.val - 15, by have h : d.val < 24 := d.isLt; omega⟩
  else if h' : 6 ≤ d.val then srcPay I c ⟨d.val - 6, by omega⟩
  else iprop(emp)

instance dmaPay_storable (c : Dev nD) (d : DmaSem sig) : BI.Storable (upEmb : UEmb _ 𝕄) (dmaPay I c d) := by
  unfold dmaPay; (repeat' split) <;> infer_instance

set_option backward.proofsInPublic true in
/-- One round of one duty on every cell: a barrier duty one unit, a transfer's its credit. -/
def Rd : Rounds.Schedule (GSem nD τ sig) Unit 𝕄 where
  duties g r := if r = 0 then {()} else ∅
  unitless _ := False
  amount g _ _ := match g.2 with
    | .reg _ => 1
    | .dma d => if 15 = d.val ∨ 6 = d.val then N0 else N1
  payload g _ _ := match g.2 with
    | .reg _ => barPay g.1.1
    | .dma d => dmaPay I g.1.1 d
  amount_pos g _ _ _ := by
    cases g.2 with
    | reg _ => exact Nat.one_pos
    | dma d =>
      show 0 < if _ then _ else _
      split
      · exact View.dmaCredit_pos _ (by decide)
      · exact View.dmaCredit_pos _ (by decide)

instance Rd_storable (g : GSem nD τ sig) (r : ℕ) (d : Unit) : BI.Storable (upEmb : UEmb _ 𝕄) ((Rd I).payload g r d) := by
  obtain ⟨t, s⟩ := g
  cases s with
  | reg s => exact barPay_storable t.1
  | dma s => exact dmaPay_storable I t.1 s

variable (c : Dev nD) (k : Fin 9)

/-- Each counter has one duty, in its first round, -/
theorem duties0 (g : GSem nD τ sig) : (Rd I).duties g 0 = {()} := rfl
/-- and none in a later round. -/
theorem duties_later (g : GSem nD τ sig) : ∀ r, 1 ≤ r → (Rd I).duties g r = ∅ :=
  fun r hr => if_neg (by omega)
/-- The one duty is there. -/
theorem mem0 (g : GSem nD τ sig) : () ∈ (Rd I).duties g 0 := by rw [duties0]; exact Finset.mem_singleton_self _

/-- The barrier's duty is one signal; -/
theorem amount_bar : (Rd I).amount (barC c) 0 () = 1 := rfl
/-- a sending counter's is its copy's amount, -/
theorem amount_snd : (Rd I).amount (sndC c k) 0 () = amt k := by fin_cases k <;> rfl
/-- and so is a receiving counter's. -/
theorem amount_rcv : (Rd I).amount (rcvC c k) 0 () = amt k := by fin_cases k <;> rfl

/-- So the barrier awaits one signal, -/
theorem expect_bar : (Rd I).expect (barC c) 0 = 1 := by
  unfold Schedule.expect Schedule.amountOf; rw [duties0, Finset.sum_singleton, amount_bar]
/-- a sending counter the amount of its copy, -/
theorem expect_snd : (Rd I).expect (sndC c k) 0 = amt k := by
  unfold Schedule.expect Schedule.amountOf; rw [duties0, Finset.sum_singleton, amount_snd]
/-- and a receiving counter the same. -/
theorem expect_rcv : (Rd I).expect (rcvC c k) 0 = amt k := by
  unfold Schedule.expect Schedule.amountOf; rw [duties0, Finset.sum_singleton, amount_rcv]

/-- The barrier brings the peer's landing buffers; -/
theorem payload_bar : (Rd I).payload (barC c) 0 () = barPay c := rfl
/-- a sending counter gives back the source of its copy; -/
theorem payload_snd : (Rd I).payload (sndC c k) 0 () = srcPay I c k := by
  show dmaPay I c (sndS k) = _
  unfold dmaPay
  have h : ¬ 15 ≤ (sndS k).val := by have := k.isLt; show ¬ 15 ≤ 6 + k.val; omega
  have h' : 6 ≤ (sndS k).val := by show 6 ≤ 6 + k.val; omega
  rw [dif_neg h, dif_pos h']
  congr 1; apply Fin.ext; show 6 + k.val - 6 = k.val; omega
/-- a receiving counter brings the landing buffer with the peer's data. -/
theorem payload_rcv : (Rd I).payload (rcvC c k) 0 () = rcvPay I c (peer c) k := by
  show dmaPay I c (rcvS k) = _
  unfold dmaPay
  have h : 15 ≤ (rcvS k).val := by show 15 ≤ 15 + k.val; omega
  rw [dif_pos h]
  congr 1; apply Fin.ext; show 15 + k.val - 15 = k.val; omega

/-- What a round brings is what its one duty brings. -/
theorem rest_eq (g : GSem nD τ sig) :
    bigSep ((Rd I).duties g 0 \ ∅) (fun u => (Rd I).payload g 0 u) = (Rd I).payload g 0 () := by
  rw [Finset.sdiff_empty, duties0, bigSep_singleton]

end Pay

/-! ## What is owed, and the levels that order the waits -/

set_option backward.proofsInPublic true in
/-- The landing credits still owed to device `d`: those of the last `n` transfers. -/
def Owe (d : Dev nD) : ℕ → CellTallies nD τ sig Unit
  | 0 => 0
  | n + 1 => Owe d n + tallyAt (rcvC d ⟨8 - n, by omega⟩) () (amt ⟨8 - n, by omega⟩)

/-- One more copy outstanding is one more amount owed to its receiving counter. -/
theorem Owe_succ (d : Dev nD) (k : Fin 9) (n : ℕ) (h : k.val + n = 8) : Owe d (n + 1) = Owe d n + tallyAt (rcvC d k) () (amt k) := by
  have : k = ⟨8 - n, by omega⟩ := Fin.ext (by show k.val = 8 - n; omega)
  show Owe d n + tallyAt (rcvC d ⟨8 - n, by omega⟩) () (amt ⟨8 - n, by omega⟩) = _
  rw [← this]

/-- All that is owed to device `d`: the nine landings and the one signal. -/
def Tot (d : Dev nD) : CellTallies nD τ sig Unit := Owe d 9 + tallyAt (barC d) () 1
/-- What device `c` owes at launch. -/
def O₀ (c : Dev nD) : CellTallies nD τ sig Unit := Tot (peer c)

/-- The labels of a counter: one for the counters of the TensorCores. -/
def L (g : GSem nD τ sig) : Finset Unit := if g.1.2 = .tc then {()} else ∅
/-- Barriers below the outward landings, those below the returned ones. -/
def lv (g : GSem nD τ sig) (_ : Unit) : ℕ := match g.2 with
  | .reg _ => 1
  | .dma d => if 20 ≤ d.val then 3 else if 15 ≤ d.val then 2 else 0

/-- Counters off the TensorCores have no label; -/
theorem L_of_ne (g : GSem nD τ sig) (h : g.1.2 ≠ .tc) : L g = ∅ := if_neg h
/-- those of the TensorCores have one. -/
theorem L_tc (c : Dev nD) (sm : SemLoc sig) : L ((c : Thread nD τ), sm) = {()} := if_pos rfl

/-- Whatever is owed is owed to a receiving counter of a copy not yet started. -/
theorem Owe_pos (d : Dev nD) : ∀ (n : ℕ), n ≤ 9 → ∀ (g : GSem nD τ sig) (u : Unit), 0 < Owe d n g u →
    ∃ j : Fin 9, 9 ≤ n + j.val ∧ g = rcvC d j
  | 0, _, g, u, h => absurd h (Nat.lt_irrefl 0)
  | n + 1, hn, g, u, h => by
    by_cases h0 : 0 < Owe d n g u
    · obtain ⟨j, hj, e⟩ := Owe_pos d n (by omega) g u h0
      exact ⟨j, by omega, e⟩
    · have h1 : 0 < tallyAt (rcvC d ⟨8 - n, by omega⟩) () (amt ⟨8 - n, by omega⟩) g u := by
        have : Owe d (n + 1) g u = Owe d n g u + tallyAt (rcvC d ⟨8 - n, by omega⟩) () (amt ⟨8 - n, by omega⟩) g u := rfl
        omega
      rw [tallyAt_apply] at h1
      by_cases h2 : g = rcvC d ⟨8 - n, by omega⟩ ∧ u = ()
      · exact ⟨⟨8 - n, by omega⟩, by show 9 ≤ n + 1 + (8 - n); omega, h2.1⟩
      · rw [if_neg h2] at h1; exact absurd h1 (Nat.lt_irrefl 0)

/-- All of it is owed to counters of the device named. -/
theorem Owe_tc (d : Dev nD) (n : ℕ) (hn : n ≤ 9) (g : GSem nD τ sig) (u : Unit) (h : 0 < Owe d n g u) : g.1 = (d : Thread nD τ) := by
  obtain ⟨j, -, e⟩ := Owe_pos d n hn g u h
  rw [e]

/-- The levels of the receiving counters: the returned rows' above the others. -/
theorem lv_rcv (d : Dev nD) (j : Fin 9) : lv (rcvC d j) () = if 5 ≤ j.val then 3 else 2 := by revert j; decide +revert

/-- A wait on a cell below every landing still owed may block. -/
theorem mayWait (c d : Dev nD) (sm : SemLoc sig) (n : ℕ) (hn : n ≤ 9)
    (h : ∀ j : Fin 9, 9 ≤ n + j.val → lv ((c : Thread nD τ), sm) () < lv (rcvC d j) ()) :
    (levAts L lv : sProp 𝕄) ⊢ MayWait (c : Thread nD τ) sm () (Owe d n) :=
  MayOwe.of_cut (L := L) (lev := lv) (lv ((c : Thread nD τ), sm) ())
    (fun p hp => by rw [Finset.mem_singleton.mp hp, L_tc]; exact Finset.mem_singleton_self _)
    (fun g u hg => by
      obtain ⟨j, -, e⟩ := Owe_pos d n hn g u hg
      rw [e, L_tc]; exact Finset.mem_singleton_self _)
    (fun p hp => by rw [Finset.mem_singleton.mp hp])
    (fun g u hg => by
      obtain ⟨j, hj, e⟩ := Owe_pos d n hn g u hg
      rw [e]; exact h j hj)

/-- What the launch gives device `c` credit for: all that is owed to it. -/
theorem launchCred_eq (c : Dev nD) : (Pipeline.launchCred O₀ c : sProp 𝕄) = cred (Tot c) :=
  Pipeline.launchCred_of_sum O₀ Tot
    (show ∑ d, Tot (peerEquiv d) = ∑ d, Tot d from Equiv.sum_comp peerEquiv Tot)
    (fun d g hg => by
      by_contra hne
      apply hg
      refine Finsupp.ext fun u => ?_
      have h1 : Owe d 9 g u = 0 := by
        by_contra h; exact hne (Owe_tc d 9 le_rfl g u (Nat.pos_of_ne_zero h))
      have h2 : tallyAt (barC d) () 1 g u = 0 := by
        rw [tallyAt_apply, if_neg]; rintro ⟨h, -⟩; exact hne (by rw [h])
      show Owe d 9 g u + tallyAt (barC d) () 1 g u = 0
      rw [h1, h2]) c

end Cert.Moe

end
-- ==== Proof.Steps.lean ====
/- The kernel's memory and transfer steps as rules over the exchange protocol: a transfer gives up its source and the
   peer's landing buffer, a wait takes back what its cell hands over and closes the cell. -/
module

public import proofs.«01_k».proof.Proof.Proto
public import Idealize.ShloMosaic.Lib.VecWindow

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's variants: none. -/
abbrev 𝒱₀ : Variants := Variants.none

/-- Running a program of the kernel on device `c` to postcondition `Q`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells -/

set_option backward.proofsInPublic true in
/-- The eighteen transfer semaphores of a device, sending ones first. -/
def osem (i : Fin 18) : SemLoc sig := .dma ⟨6 + i.val, by have := i.isLt; show 6 + i.val < 24; omega⟩

/-- A transfer cell by device and number. -/
def dmaC (p : Dev nD × Fin 18) : GSem nD τ sig := ((p.1 : Thread nD τ), osem p.2)

/-- The copy counters are distinct, -/
theorem dmaC_inj : Function.Injective dmaC := by
  rintro ⟨a, i⟩ ⟨b, j⟩ h
  have h1 : a = b := congrArg (fun g : GSem nD τ sig => g.1.1) h
  have h2 : osem i = osem j := congrArg (fun g : GSem nD τ sig => g.2) h
  have h3 : (6 + i.val) = 6 + j.val := by
    unfold osem at h2
    injection h2 with h2
    exact congrArg Fin.val h2
  subst h1
  rw [show i = j from Fin.ext (by omega)]

/-- the barrier counters are distinct, -/
theorem barC_inj : Function.Injective barC := fun a b h => congrArg (fun g : GSem nD τ sig => g.1.1) h

/-- The barrier cells, the transfer cells. -/
def Sb : Finset (GSem nD τ sig) := Finset.univ.map ⟨barC, barC_inj⟩
def Sd : Finset (GSem nD τ sig) := Finset.univ.map ⟨dmaC, dmaC_inj⟩

/-- and none is both. -/
theorem disj : Disjoint Sb Sd := by
  rw [Finset.disjoint_left]
  intro g hb hd
  obtain ⟨a, -, rfl⟩ := Finset.mem_map.mp hb
  obtain ⟨p, -, h⟩ := Finset.mem_map.mp hd
  have h2 : osem p.2 = .reg barS := congrArg (fun g : GSem nD τ sig => g.2) h
  cases h2

/-- The first nine copy counters are the sending ones, -/
theorem sndC_eq (c : Dev nD) (k : Fin 9) : sndC c k = dmaC (c, ⟨k.val, by omega⟩) := rfl
/-- the last nine the receiving ones. -/
theorem rcvC_eq (c : Dev nD) (k : Fin 9) : rcvC c k = dmaC (c, ⟨9 + k.val, by omega⟩) := by
  unfold dmaC osem
  show ((c : Thread nD τ), SemLoc.dma (rcvS k)) = _
  congr 2
  apply Fin.ext; show 15 + k.val = 6 + (9 + k.val); omega

/-- A barrier counter is one of the exchange, -/
theorem mem_bar (c : Dev nD) : barC c ∈ Sb ∪ Sd := Finset.mem_union_left _ (Finset.mem_map.mpr ⟨c, Finset.mem_univ _, rfl⟩)
/-- a sending counter is, -/
theorem mem_snd (c : Dev nD) (k : Fin 9) : sndC c k ∈ Sb ∪ Sd :=
  Finset.mem_union_right _ (Finset.mem_map.mpr ⟨_, Finset.mem_univ _, (sndC_eq c k).symm⟩)
/-- and a receiving counter is. -/
theorem mem_rcv (c : Dev nD) (k : Fin 9) : rcvC c k ∈ Sb ∪ Sd :=
  Finset.mem_union_right _ (Finset.mem_map.mpr ⟨_, Finset.mem_univ _, (rcvC_eq c k).symm⟩)

section Steps

variable (I : Inp F) (κ : GSem nD τ sig → ℕ) (c : Dev nD)

/-- What every step may use again and again: every cell's invariant, the levels. -/
def Ctx : sProp 𝕄 := iprop((bigSep (Sb ∪ Sd) fun g => cellInv ER (Rd I) (κ g) g) ∗ levAts L lv)

instance Ctx_persistent : BI.Persistent (Ctx I κ) := by unfold Ctx; infer_instance

/-- The context holds every counter's invariant, -/
theorem Ctx_inv {g : GSem nD τ sig} (hg : g ∈ Sb ∪ Sd) : (Ctx I κ : sProp 𝕄) ⊢ cellInv ER (Rd I) (κ g) g := by
  unfold Ctx
  exact (BI.sep_and.trans BI.and_elimL).trans (BI.bigSep_elim hg)
/-- and the levels. -/
theorem Ctx_lev : (Ctx I κ : sProp 𝕄) ⊢ levAts L lv := by unfold Ctx; iintro ⟨-, H⟩; iexact H

/-- Device `c` still owes its peer the landings of the last `n` transfers. -/
def owesR (n : ℕ) : sProp 𝕄 := iprop(∃ W, owes (c : Thread nD τ) (Owe (peer c) n) W)

/-- The two tokens device `c` pays transfer `k` with, and the sending cell's mark. -/
def tokK (k : Fin 9) : sProp 𝕄 :=
  iprop(dutyTok ER (sndC c k) 0 () ∗ dutyTok ER (rcvC (peer c) k) 0 () ∗ reached ER (sndC c k) 0)
/-- What device `c` waits for transfer `k`'s landing with. -/
def rcvK (k : Fin 9) : sProp 𝕄 := iprop(cred (tallyAt (rcvC c k) () (amt k)) ∗ atPos ER (rcvC c k) 0 ∅ 0)
/-- What device `c` waits for transfer `k`'s leaving with. -/
def sndK (k : Fin 9) : sProp 𝕄 := iprop(cred (tallyAt (sndC c k) () (amt k)) ∗ atPos ER (sndC c k) 0 ∅ 0)

/-- A counter whose round is over is given back. -/
theorem close (g : GSem nD τ sig) (κ : ℕ) :
    iprop(cellInv ER (Rd I) κ g ∗ atPos ER g (0 + 1) ∅ 0) ⊢ (|={Set.univ}=> semVal g 0 : sProp 𝕄) :=
  Rounds.cell_close ER (Rd I) (Set.mem_univ κ) id (duties_later I g)

variable {I κ c}

/-- A finished program gives its value to the postcondition. -/
theorem wp_done {α : Type} {Q : α → sProp 𝕄} {a : α} : (Q a : sProp 𝕄) ⊢ Wp c (.ret a) Q := by
  unfold Wp; rw [wp_ret]; iintro H; imodintro; iexact H

/-- One program after another. -/
theorem wp_seq {α β : Type} {Q : β → sProp 𝕄} {p : Prog (TpuEff nD τ sig (Elt F) Λ₀ .tc) α} {f : α → Prog (TpuEff nD τ sig (Elt F) Λ₀ .tc) β} :
    (Wp c p (fun a => Wp c (f a) Q) : sProp 𝕄) ⊢ Wp c (p >>= f) Q := by
  unfold Wp; rw [wp_bind]

/-- A load through a rectangle of an owned buffer. -/
theorem wp_load_own {s : Shape} {e : EltTy} {m : Memref sig .tc .vmem s e} {r : Rect s} {hl : m.view.LoadsAt r.toLoadRect}
    {X : s.Idx → Elt F e} {α : Type} {Q : α → sProp 𝕄} {k : (r.shape.Idx → Elt F e) → Prog (TpuEff nD τ sig (Elt F) Λ₀ .tc) α} :
    (own c m X : sProp 𝕄) ⊢ iprop((own c m X -∗ Wp c (k fun j => X (r.emb j)) Q) -∗ Wp c (.op (.load m r.toLoadRect hl) k) Q) := by
  unfold own owns
  iintro ⟨%f, %hf, H⟩ Hk
  iapply (wp_load 𝒱₀ (c : Thread nD τ) none Set.univ (m := m) (r := r.toLoadRect) (View.setOn_subset_set _ _)) $$ H
  iintro H
  subst hf
  iapply Hk
  iexists f
  isplitr; · ipureintro; rfl
  iexact H

/-- The same, the loaded value given a name. -/
theorem wp_load_as {s : Shape} {e : EltTy} {m : Memref sig .tc .vmem s e} (r : Rect s) (X : s.Idx → Elt F e) (Z : r.shape.Idx → Elt F e)
    (hZ : (fun j => X (r.emb j)) = Z) {hl : m.view.LoadsAt r.toLoadRect} {α : Type} {Q : α → sProp 𝕄}
    {k : (r.shape.Idx → Elt F e) → Prog (TpuEff nD τ sig (Elt F) Λ₀ .tc) α} :
    (own c m X : sProp 𝕄) ⊢ iprop((own c m X -∗ Wp c (k Z) Q) -∗ Wp c (.op (.load m r.toLoadRect hl) k) Q) := by
  subst hZ; exact wp_load_own

/-- A load of a whole owned buffer. -/
theorem wp_load_full {s : Shape} {e : EltTy} {m : Memref sig .tc .vmem s e} {off : Fin s.rank → ℕ} {inb : ∀ a, off a + s.size a ≤ s.size a}
    {hl : m.view.LoadsAt (Rect.unit off s.size inb).toLoadRect} {X : s.Idx → Elt F e} {α : Type} {Q : α → sProp 𝕄}
    {k : (s.Idx → Elt F e) → Prog (TpuEff nD τ sig (Elt F) Λ₀ .tc) α} :
    (own c m X : sProp 𝕄) ⊢ iprop((own c m X -∗ Wp c (k X) Q) -∗ Wp c (.op (.load m (Rect.unit off s.size inb).toLoadRect hl) k) Q) := by
  have h := wp_load_own (c := c) (m := m) (r := Rect.unit off s.size inb) (hl := hl) (X := X) (Q := Q) (k := k)
  rwa [show (fun j => X ((Rect.unit off s.size inb).emb j)) = X from funext fun j => congrArg X (Rect.emb_unit_full inb j)] at h

/-- A load of an owned slice through the buffer it is a slice of. -/
theorem wp_load_slice {s : Shape} {e : EltTy} {m : Memref sig .tc .vmem s e} {r : Rect s} (hr : ∀ a, r.stride a = 1) {hl : m.view.LoadsAt r.toLoadRect}
    {X : r.shape.Idx → Elt F e} {α : Type} {Q : α → sProp 𝕄} {k : (r.shape.Idx → Elt F e) → Prog (TpuEff nD τ sig (Elt F) Λ₀ .tc) α} :
    (own c (m.slice r hr) X : sProp 𝕄) ⊢ iprop((own c (m.slice r hr) X -∗ Wp c (k X) Q) -∗ Wp c (.op (.load m r.toLoadRect hl) k) Q) := by
  unfold own owns
  iintro ⟨%f, %hf, H⟩ Hk
  iapply (wp_load_rect 𝒱₀ (c : Thread nD τ) none Set.univ (m := m) (r := r) (S := (m.slice r hr).view.set) (Finset.Subset.refl _)) $$ H
  iintro H
  subst hf
  iapply Hk
  iexists f
  isplitr; · ipureintro; rfl
  iexact H

/-- A store over an owned slice. -/
theorem wp_store_slice {s : Shape} {e : EltTy} {m : Memref sig .tc .vmem s e} {r : Rect s} (hr : ∀ a, r.stride a = 1)
    {w : r.shape.Idx → Elt F e} {hx : (m.access r).Stores Finset.univ} {hm : Finset.univ = Finset.univ ∨ ∀ a, r.stride a = 1}
    {X : r.shape.Idx → Elt F e} {α : Type} {Q : α → sProp 𝕄} {k : PUnit → Prog (TpuEff nD τ sig (Elt F) Λ₀ .tc) α} :
    (own c (m.slice r hr) X : sProp 𝕄) ⊢ iprop((own c (m.slice r hr) w -∗ Wp c (k ⟨⟩) Q) -∗ Wp c (.op (.store m r w Finset.univ hx hm) k) Q) := by
  unfold own owns
  iintro ⟨%f, %hf, H⟩ Hk
  iapply (wp_store 𝒱₀ (c : Thread nD τ) none Set.univ (m := m) (r := r) (S := (m.slice r hr).view.set) (View.setOn_subset_set _ _)) $$ H
  iintro H
  iapply Hk
  iexists (m.access r).write (Elt F) f w Finset.univ
  isplitr; · ipureintro; exact View.read_write_univ _ _
  iexact H

/-- A store over a whole owned buffer. -/
theorem wp_store_full {s : Shape} {e : EltTy} {m : Memref sig .tc .vmem s e} {off : Fin s.rank → ℕ} {inb : ∀ a, off a + s.size a ≤ s.size a}
    {w : s.Idx → Elt F e} {hx : (m.access (Rect.unit off s.size inb)).Stores Finset.univ}
    {hm : Finset.univ = Finset.univ ∨ ∀ a, (Rect.unit off s.size inb).stride a = 1}
    {X : s.Idx → Elt F e} {α : Type} {Q : α → sProp 𝕄} {k : PUnit → Prog (TpuEff nD τ sig (Elt F) Λ₀ .tc) α} :
    (own c m X : sProp 𝕄) ⊢ iprop((own c m w -∗ Wp c (k ⟨⟩) Q) -∗ Wp c (.op (.store m (Rect.unit off s.size inb) w Finset.univ hx hm) k) Q) := by
  unfold own owns
  iintro ⟨%f, %hf, H⟩ Hk
  iapply (wp_store 𝒱₀ (c : Thread nD τ) none Set.univ (m := m) (r := Rect.unit off s.size inb) (S := m.view.set)
    ((View.setOn_subset_set _ _).trans (View.set_slice_subset _ _))) $$ H
  iintro H
  iapply Hk
  iexists (m.access (Rect.unit off s.size inb)).write (Elt F) f w Finset.univ
  isplitr
  · ipureintro
    funext j
    have := View.read_slice_write_emb (v := m.view) (Rect.unit off s.size inb) f w (M := Finset.univ) (x := j) (Finset.mem_univ _)
    rwa [Rect.emb_unit_full] at this
  iexact H

variable (κ)

/-- Transfer `k` to the peer: it gives up the source and the peer's landing buffer, and pays one of the landings owed. -/
theorem wp_send (k : Fin 9) (r : ℕ) (hk : k.val + r = 8) {n : Dev nD} (hn : n = peer c) {s : Shape} {e : EltTy}
    (src : Memref sig .tc .vmem s e) (dst : Memref sig (Dev.tc n : Thread nD τ).2.kind .vmem s e) {sS rS : DmaSem sig}
    {hsc : dst.view.ref.isScScratch = false}
    {hsrc : src.view.WordExact} {hdst : dst.view.WordExact}
    {hsem : DmaTarget.Typed .vmem (.dma rS) (.remote (Dev.tc n : Thread nD τ) dst (.dma sS) hsc)}
    (X : s.Idx → Elt F e) (hsS : sS = sndS k) (hrS : rS = rcvS k) (hN : dst.view.dmaCredit = amt k)
    (hs : (srcPay I c k : sProp 𝕄) = own c src X) (hl : (landAny (peer c) k : sProp 𝕄) = any (peer c) (dst : Memref sig .tc .vmem s e))
    (hd : (rcvPay I (peer c) c k : sProp 𝕄) = own (peer c) (dst : Memref sig .tc .vmem s e) X)
    {α : Type} {Q : α → sProp 𝕄} {kt : PUnit → Prog (TpuEff nD τ sig (Elt F) Λ₀ .tc) α} :
    iprop(Ctx I κ ∗ srcPay I c k ∗ (landAny (peer c) k ∗ reached ER (rcvC (peer c) k) 0) ∗ owesR c (r + 1) ∗ tokK c k)
      ⊢ iprop(((cred (tallyAt (sndC c k) () (amt k)) ∗ owesR c r) -∗ Wp c (kt ⟨⟩) Q)
          -∗ Wp c (.op (.enqueueDma src (.remote (Dev.tc n : Thread nD τ) dst (.dma sS) hsc) (.dma rS) hsrc hdst hsem) kt) Q) := by
  subst hn hsS hrS
  rw [hs, hl]
  unfold owesR tokK any own owns
  iintro ⟨#HC, ⟨%fs, %hfs, Hs⟩, ⟨⟨%Y, %fd, %hfd, Hd⟩, #Hrd⟩, ⟨%W, HO⟩, Hts, Htd, #Hrs⟩ Hk
  ihave #Hi1 := (Ctx_inv I κ (mem_snd c k)) $$ HC
  ihave #Hi2 := (Ctx_inv I κ (mem_rcv (peer c) k)) $$ HC
  iapply (Rounds.wp_send_pointsTo 𝒱₀ ER (Rd I) (c : Thread nD τ) none (κ₁ := κ (sndC c k)) (κ₂ := κ (rcvC (peer c) k))
    (r₁ := 0) (r₂ := 0) (d₁ := ()) (d₂ := ()) (fs := fs) (fd := fd) (mem0 I _) (mem0 I _) () () (amt k) (show dst.view.amount (.dma (rcvS k)) = amt k from hN) (amount_snd I c k) (amount_rcv I (peer c) k)
    (Owe (peer c) r) (Owe_succ (peer c) k r hk) (W := W)
    (by rw [payload_snd, hs]; unfold own owns; iintro H; iexists fs; isplitr; · ipureintro; exact hfs
        iexact H)
    (by rw [payload_rcv, peer_peer, hd]; unfold own owns; iintro H
        iexists dst.view.write (Elt F) fd (src.view.read (Elt F) fs) Finset.univ
        isplitr; · ipureintro; rw [View.read_write_univ]; exact hfs
        iexact H)) $$ [Hs Hd HO Hts Htd]
  · isplitr; · iexact Hi1
    isplitr; · iexact Hi2
    isplitl [Hs]; · iexact Hs
    isplitl [Hd]; · iexact Hd
    isplitl [HO]; · iexact HO
    isplitl [Hts]; · iexact Hts
    isplitr; · iexact Hrs
    isplitl [Htd]; · iexact Htd
    iexact Hrd
  iintro ⟨Hc, HO⟩
  iapply Hk
  isplitl [Hc]; · iexact Hc
  iexists W; iexact HO

/-- A wait on one of the device's transfer cells: it takes back what the cell hands over, and the cell is closed. -/
theorem wp_await (n : ℕ) {sem sm : DmaSem sig} (hsem : sem = sm) (N : ℕ) {P : sProp 𝕄}
    (hg : ((c : Thread nD τ), SemLoc.dma sm) ∈ Sb ∪ Sd) (hE : (Rd I).expect ((c : Thread nD τ), .dma sm) 0 = N)
    (hP : (Rd I).payload ((c : Thread nD τ), .dma sm) 0 () = P)
    (hmw : (levAts L lv : sProp 𝕄) ⊢ MayWait (c : Thread nD τ) (.dma sm) () (Owe (peer c) n))
    {s s' : Shape} {e e' : EltTy} {src : Memref sig .tc .vmem s' e'} {dst : Memref sig .tc .vmem s e}
    {hsrc : src.view.WordExact} {hdst : dst.view.WordExact} (hN : dst.view.dmaCredit = N)
    {α : Type} {Q : α → sProp 𝕄} {kt : PUnit → Prog (TpuEff nD τ sig (Elt F) Λ₀ .tc) α} :
    iprop(Ctx I κ ∗ (cred (tallyAt ((c : Thread nD τ), .dma sm) () N) ∗ atPos ER ((c : Thread nD τ), .dma sm) 0 ∅ 0) ∗ owesR c n)
      ⊢ iprop(((P ∗ semVal ((c : Thread nD τ), .dma sm) 0 ∗ owesR c n) -∗ Wp c (kt ⟨⟩) Q)
          -∗ Wp c (.op (.waitDma2 sem src dst hsrc hdst) kt) Q) := by
  subst hsem hP hN
  unfold owesR
  iintro ⟨#HC, ⟨Hc, Hat⟩, ⟨%W, HO⟩⟩ Hk
  ihave #Hi := (Ctx_inv I κ hg) $$ HC
  ihave #Hlev := (Ctx_lev I κ) $$ HC
  iapply (Rounds.wp_wait_rest_token 𝒱₀ ER (Rd I) (c : Thread nD τ) none (κ := κ ((c : Thread nD τ), .dma sem))
      (wpE_waitDma2_eq 𝒱₀ (c : Thread nD τ) none Set.univ) (Set.mem_univ _) () (O := Owe (peer c) n) (W := W) (R := 0) (m := 0) (T := ∅)
      (by rw [Nat.zero_add, hE])) $$ [Hc HO Hat]
  · isplitr; · iexact Hi
    isplitl [Hc]; · iexact Hc
    isplitl [HO]; · iexact HO
    isplitr; · iapply hmw; iexact Hlev
    iexact Hat
  iintro ⟨HO, Hat, -, Hpay⟩
  ihave Hp := (Entails.of_eq (rest_eq I _)) $$ Hpay
  imod (close I ((c : Thread nD τ), .dma sem) (κ ((c : Thread nD τ), .dma sem))) $$ [Hat] with Hz
  · isplitr; · iexact Hi
    iexact Hat
  iapply Hk
  isplitl [Hp]; · iexact Hp
  isplitl [Hz]; · iexact Hz
  iexists _; iexact HO

/-- The wait for transfer `k` to land, the landings of the last `n` transfers still owed. -/
theorem wp_landed (k : Fin 9) (n : ℕ) (hn : n ≤ 9) (hlv : ∀ j : Fin 9, 9 ≤ n + j.val → (k.val < 5 ∧ 5 ≤ j.val))
    {sem : DmaSem sig} (hsem : sem = rcvS k)
    {s s' : Shape} {e e' : EltTy} (src : Memref sig .tc .vmem s' e') (dst : Memref sig .tc .vmem s e)
    {hsrc : src.view.WordExact} {hdst : dst.view.WordExact} (hN : dst.view.dmaCredit = amt k)
    {α : Type} {Q : α → sProp 𝕄} {kt : PUnit → Prog (TpuEff nD τ sig (Elt F) Λ₀ .tc) α} :
    iprop(Ctx I κ ∗ rcvK c k ∗ owesR c n)
      ⊢ iprop(((rcvPay I c (peer c) k ∗ semVal (rcvC c k) 0 ∗ owesR c n) -∗ Wp c (kt ⟨⟩) Q)
          -∗ Wp c (.op (.waitDma2 sem src dst hsrc hdst) kt) Q) := by
  unfold rcvK
  exact wp_await κ n hsem (amt k) (mem_rcv c k) (expect_rcv I c k) (payload_rcv I c k)
    (mayWait c (peer c) _ n hn fun j hj => by
      obtain ⟨h1, h2⟩ := hlv j hj
      rw [lv_rcv, lv_rcv, if_neg (by omega), if_pos h2]; decide) hN

/-- The wait for transfer `k` to have left, owing nothing any more. -/
theorem wp_left (k : Fin 9) {sem : DmaSem sig} (hsem : sem = sndS k)
    {s s' : Shape} {e e' : EltTy} (src : Memref sig .tc .vmem s' e') (dst : Memref sig .tc .vmem s e)
    {hsrc : src.view.WordExact} {hdst : dst.view.WordExact} (hN : dst.view.dmaCredit = amt k)
    {α : Type} {Q : α → sProp 𝕄} {kt : PUnit → Prog (TpuEff nD τ sig (Elt F) Λ₀ .tc) α} :
    iprop(Ctx I κ ∗ sndK c k ∗ owesR c 0)
      ⊢ iprop(((srcPay I c k ∗ semVal (sndC c k) 0 ∗ owesR c 0) -∗ Wp c (kt ⟨⟩) Q)
          -∗ Wp c (.op (.waitDma2 sem src dst hsrc hdst) kt) Q) := by
  unfold sndK
  exact wp_await κ 0 hsem (amt k) (mem_snd c k) (expect_snd I c k) (payload_snd I c k)
    (mayWait c (peer c) _ 0 (by omega) fun j hj => absurd hj (by have := j.isLt; omega)) hN

end Steps

end Cert.Moe

end
-- ==== Proof.Parts.lean ====
/- The kernel's body, part by part up to the device's own contribution: the handshake, the gathering and the sending. -/
module

public import proofs.«01_k».proof.Proof.Steps

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option backward.proofsInPublic true in
/-- A piece of the body at the buffers and semaphores the region calls it with. -/
abbrev ap {β : Type _} (f : (arg0 : Memref sig .tc .vmem S512x512 .f32) → arg0.IsWhole → (arg1 : Memref sig .tc .vmem S512x1 .i32) → arg1.IsWhole
    → (arg2 : Memref sig .tc .vmem S1x512 .i32) → arg2.IsWhole → (arg3 : Memref sig .tc .vmem S2x512x1024 .f32) → arg3.IsWhole
    → (arg4 : Memref sig .tc .vmem S2x1024x512 .f32) → arg4.IsWhole → (arg5 : Memref sig .tc .vmem S512x512 .f32) → arg5.IsWhole
    → (arg6 : Memref sig .tc .vmem S320x512 .bf16) → arg6.IsWhole → (arg7 : Memref sig .tc .vmem S320x512 .bf16) → arg7.IsWhole
    → (arg8 : Memref sig .tc .vmem S320x1 .f32) → arg8.IsWhole → (arg9 : Memref sig .tc .vmem S320x1 .f32) → arg9.IsWhole
    → (arg10 : Memref sig .tc .vmem S320x512 .bf16) → arg10.IsWhole → (arg11 : Memref sig .tc .vmem S320x512 .bf16) → arg11.IsWhole
    → DmaSems sig S9 → DmaSems sig S9 → β) : β :=
  f mX (Memref.isWhole_whole _) mC (Memref.isWhole_whole _) mR (Memref.isWhole_whole _) mW1 (Memref.isWhole_whole _)
    mW2 (Memref.isWhole_whole _) mO (Memref.isWhole_whole _) mS (Memref.isWhole_whole _) mL (Memref.isWhole_whole _)
    mA (Memref.isWhole_whole _) mB (Memref.isWhole_whole _) mT (Memref.isWhole_whole _) mU (Memref.isWhole_whole _) cc0_scratch6 cc0_scratch7

/-- The device each copy and the signal name is the peer. -/
theorem dev1_eq (c : Dev nD) : (⟨k0_dev1 c, k0_dev1_lt c⟩ : Dev nD) = peer c := by revert c; decide
/-- The device each copy and the signal name is the peer. -/
theorem dev2_eq (c : Dev nD) : (⟨k0_dev2 c, k0_dev2_lt c⟩ : Dev nD) = peer c := by revert c; decide
/-- The device each copy and the signal name is the peer. -/
theorem dev3_eq (c : Dev nD) : (⟨k0_dev3 c, k0_dev3_lt c⟩ : Dev nD) = peer c := by revert c; decide
/-- The device each copy and the signal name is the peer. -/
theorem dev4_eq (c : Dev nD) : (⟨k0_dev4 c, k0_dev4_lt c⟩ : Dev nD) = peer c := by revert c; decide
/-- The device each copy and the signal name is the peer. -/
theorem dev5_eq (c : Dev nD) : (⟨k0_dev5 c, k0_dev5_lt c⟩ : Dev nD) = peer c := by revert c; decide
/-- The device each copy and the signal name is the peer. -/
theorem dev6_eq (c : Dev nD) : (⟨k0_dev6 c, k0_dev6_lt c⟩ : Dev nD) = peer c := by revert c; decide
/-- The device each copy and the signal name is the peer. -/
theorem dev7_eq (c : Dev nD) : (⟨k0_dev7 c, k0_dev7_lt c⟩ : Dev nD) = peer c := by revert c; decide
/-- The device each copy and the signal name is the peer. -/
theorem dev8_eq (c : Dev nD) : (⟨k0_dev8 c, k0_dev8_lt c⟩ : Dev nD) = peer c := by revert c; decide
/-- The device each copy and the signal name is the peer. -/
theorem dev9_eq (c : Dev nD) : (⟨k0_dev9 c, k0_dev9_lt c⟩ : Dev nD) = peer c := by revert c; decide
/-- The device each copy and the signal name is the peer. -/
theorem dev10_eq (c : Dev nD) : (⟨k0_dev10 c, k0_dev10_lt c⟩ : Dev nD) = peer c := by revert c; decide

variable (I : Inp F) (κ : GSem nD τ sig → ℕ) (c : Dev nD)

/-- The second and third mesh coordinates as the program computes them; nothing depends on them. -/
abbrev cY : BitVec 32 := Scalar.remsi (Scalar.divsi (Dev.word c) 2#32) 2#32
abbrev cZ : BitVec 32 := Scalar.remsi (Scalar.divsi (Dev.word c) 1#32) 2#32
abbrev oth : BitVec 32 := Scalar.subi 1#32 (half c)

set_option maxHeartbeats 800000 in
/-- The handshake: the device lends its landing buffers to its peer and gets the peer's. -/
theorem part1_run (Q : _ → sProp 𝕄) :
    iprop(Ctx I κ ∗ (∃ W, owes (c : Thread nD τ) (O₀ c) W) ∗ (dutyTok ER (barC (peer c)) 0 () ∗ reached ER (barC (peer c)) 0)
        ∗ (cred (tallyAt (barC c) () 1) ∗ atPos ER (barC c) 0 ∅ 0)
        ∗ (bigSep Finset.univ fun k : Fin 9 => iprop(landAny c k ∗ reached ER (rcvC c k) 0)) ∗ own c mR (I.arow c))
      ⊢ iprop(((bigSep Finset.univ fun k : Fin 9 => iprop(landAny (peer c) k ∗ reached ER (rcvC (peer c) k) 0)) ∗ semVal (barC c) 0
            ∗ owesR c 9 ∗ own c mR (I.arow c) -∗ Q ⟨c, half c, cY c, cZ c, oth c, mrow I c, k0_pay2, zeroF, k0_pay3⟩)
          -∗ Wp c (ap k0_part1) Q) := by
  simp only [k0_part1_eq_skeleton]; unfold k0_part1_skel
  simp only [semSignalWord, semWaitWord, Prog.lift, Prog.bind_op, Prog.bind_ret, Prog.pure_eq_ret, wp_deviceId]
  iintro ⟨#HC, ⟨%W, HO⟩, ⟨Htb, #Hrb⟩, ⟨Hcb, Hab⟩, Hl, HR⟩ Hk
  ihave #Hi1 := (Ctx_inv I κ (mem_bar c)) $$ HC
  ihave #Hi2 := (Ctx_inv I κ (mem_bar (peer c))) $$ HC
  ihave #Hlev := (Ctx_lev I κ) $$ HC
  simp only [dev1_eq c]
  iapply (Rounds.wp_signal 𝒱₀ ER (Rd I) (c : Thread nD τ) none (dst := (peer c : Thread nD τ)) (κ := κ (barC (peer c)))
      (mem0 I _) ((amount_bar I (peer c)).trans (by decide)) () (Owe (peer c) 9) rfl) $$ [HO Htb Hl]
  · isplitr; · iexact Hi2
    isplitl [HO]; · iexact HO
    isplitl [Htb]; · iexact Htb
    isplitl [Hl]
    · rw [payload_bar]; unfold barPay; rw [peer_peer]; iexact Hl
    · iexact Hrb
  iintro HO
  iapply (Rounds.wp_wait_rest_token 𝒱₀ ER (Rd I) (c : Thread nD τ) none (κ := κ (barC c))
      (wpE_semWait_eq 𝒱₀ (c : Thread nD τ) none Set.univ) (Set.mem_univ _) () (O := Owe (peer c) 9) (W := W) (R := 0) (m := 0) (T := ∅)
      (by rw [expect_bar]; decide)) $$ [Hcb HO Hab]
  · isplitr; · iexact Hi1
    isplitl [Hcb]; · iexact Hcb
    isplitl [HO]; · iexact HO
    isplitr
    · iapply (mayWait c (peer c) (.reg barS) 9 le_rfl fun j _ => by
        rw [lv_rcv]; show 1 < _; split <;> decide)
      iexact Hlev
    iexact Hab
  iintro ⟨HO, Hab, -, Hpay⟩
  ihave Hp := (Entails.of_eq ((rest_eq I (barC c)).trans ((payload_bar I c).trans (by unfold barPay; rfl)))) $$ Hpay
  imod (close I (barC c) (κ (barC c))) $$ [Hab] with Hz
  · isplitr; · iexact Hi1
    iexact Hab
  iapply wp_load_full $$ HR
  iintro HR
  iapply wp_done
  iapply Hk
  isplitl [Hp]; · iexact Hp
  isplitl [Hz]; · iexact Hz
  isplitl [HO]; · unfold owesR; iexists _; iexact HO
  iexact HR

set_option maxHeartbeats 800000 in
/-- The gathered assignments leave for the peer. -/
theorem part2_run (v5 v8 v9 : BitVec 32) (Q : _ → sProp 𝕄) :
    iprop(Ctx I κ ∗ own c mX (I.x c) ∗ own c mC (I.acol c) ∗ any c mA
        ∗ (landAny (peer c) 0 ∗ reached ER (rcvC (peer c) 0) 0) ∗ owesR c 9 ∗ tokK c 0)
      ⊢ iprop(((own c mX (I.x c) ∗ own c mC (I.acol c) ∗ cred (tallyAt (sndC c 0) () (amt 0)) ∗ owesR c 8)
            -∗ Q ⟨gat I c, xb I c, k0_pay8 (mrow I c) k0_pay2 zeroF (k0_pay3 (F := F)) (I.x c)⟩)
          -∗ Wp c (ap k0_part2 c v5 v8 v9 (mrow I c) k0_pay2 zeroF (k0_pay3 (F := F))) Q) := by
  simp only [k0_part2_eq_skeleton]; unfold k0_part2_skel
  simp only [Prog.lift, Prog.bind_op, Prog.bind_ret, Prog.pure_eq_ret]
  iintro ⟨#HC, HX, HA, Hs, Hl, HO, Ht⟩ Hk
  unfold any
  icases Hs with ⟨%Y, Hs⟩
  iapply wp_load_full $$ HX; iintro HX
  iapply wp_load_full $$ HA; iintro HA
  iapply wp_load_full $$ Hs; iintro Hs
  iapply wp_store_full $$ Hs; iintro Hs
  iapply (wp_send κ (0 : Fin 9) 8 rfl (dev2_eq c) mA mB (asg I c) rfl rfl rfl rfl rfl rfl) $$ [Hs Hl HO Ht]
  · isplitr; · iexact HC
    isplitl [Hs]; · dsimp only [srcPay, asg, xsv]; iexact Hs
    isplitl [Hl]; · iexact Hl
    isplitl [HO]; · iexact HO
    iexact Ht
  iintro ⟨Hc, HO⟩
  iapply wp_done
  iapply Hk
  isplitl [HX]; · iexact HX
  isplitl [HA]; · iexact HA
  isplitl [Hc]; · iexact Hc
  iexact HO

set_option maxHeartbeats 800000 in
/-- The first chunk leaves, the second is written. -/
theorem part3_run (v5 v8 v9 : BitVec 32) (Q : _ → sProp 𝕄) :
    iprop(Ctx I κ ∗ any c (ch0 mS) ∗ any c (ch1 mS)
        ∗ (landAny (peer c) 1 ∗ reached ER (rcvC (peer c) 1) 0) ∗ owesR c 8 ∗ tokK c 1)
      ⊢ iprop(((own c (ch1 mS) (xsv I c 1) ∗ cred (tallyAt (sndC c 1) () (amt 1)) ∗ owesR c 7) -∗ Q ⟨⟩)
          -∗ Wp c (ap k0_part3 c v5 v8 v9 (gat I c) (xb I c) (k0_pay8 (mrow I c) k0_pay2 zeroF (k0_pay3 (F := F)) (I.x c))) Q) := by
  simp only [k0_part3_eq_skeleton]; unfold k0_part3_skel
  simp only [Prog.lift, Prog.bind_op, Prog.bind_ret, Prog.pure_eq_ret]
  iintro ⟨#HC, Hs, Hs', Hl, HO, Ht⟩ Hk
  unfold any
  icases Hs with ⟨%Y, Hs⟩
  icases Hs' with ⟨%Y', Hs'⟩
  iapply (wp_load_slice (fun _ => rfl)) $$ Hs; iintro Hs
  iapply (wp_store_slice (fun _ => rfl)) $$ Hs; iintro Hs
  iapply (wp_send κ (1 : Fin 9) 7 rfl (dev3_eq c) (ch0 mS) (ch0 mL) (xsv I c 0) rfl rfl rfl rfl rfl rfl) $$ [Hs Hl HO Ht]
  · isplitr; · iexact HC
    isplitl [Hs]; · dsimp only [srcPay, asg, xsv]; iexact Hs
    isplitl [Hl]; · iexact Hl
    isplitl [HO]; · iexact HO
    iexact Ht
  iintro ⟨Hc, HO⟩
  iapply (wp_load_slice (fun _ => rfl)) $$ Hs'; iintro Hs'
  iapply (wp_store_slice (fun _ => rfl)) $$ Hs'; iintro Hs'
  iapply wp_done
  iapply Hk
  isplitl [Hs']; · iexact Hs'
  isplitl [Hc]; · iexact Hc
  iexact HO

set_option maxHeartbeats 800000 in
/-- The second and third chunks leave, the third and fourth are written. -/
theorem part4_run (v5 v8 v9 : BitVec 32) (Q : _ → sProp 𝕄) :
    iprop(Ctx I κ ∗ own c (ch1 mS) (xsv I c 1) ∗ any c (ch2 mS) ∗ any c (ch3 mS)
        ∗ (landAny (peer c) 2 ∗ reached ER (rcvC (peer c) 2) 0) ∗ tokK c 2
        ∗ (landAny (peer c) 3 ∗ reached ER (rcvC (peer c) 3) 0) ∗ tokK c 3 ∗ owesR c 7)
      ⊢ iprop(((own c (ch3 mS) (xsv I c 3) ∗ cred (tallyAt (sndC c 2) () (amt 2)) ∗ cred (tallyAt (sndC c 3) () (amt 3)) ∗ owesR c 5) -∗ Q ⟨⟩)
          -∗ Wp c (ap k0_part4 c v5 v8 v9 (gat I c) (xb I c)) Q) := by
  simp only [k0_part4_eq_skeleton]; unfold k0_part4_skel
  simp only [Prog.lift, Prog.bind_op, Prog.bind_ret, Prog.pure_eq_ret]
  iintro ⟨#HC, Hs1, Hs2, Hs3, Hl2, Ht2, Hl3, Ht3, HO⟩ Hk
  unfold any
  icases Hs2 with ⟨%Y, Hs2⟩
  icases Hs3 with ⟨%Y', Hs3⟩
  iapply (wp_send κ (2 : Fin 9) 6 rfl (dev4_eq c) (ch1 mS) (ch1 mL) (xsv I c 1) rfl rfl rfl rfl rfl rfl) $$ [Hs1 Hl2 HO Ht2]
  · isplitr; · iexact HC
    isplitl [Hs1]; · dsimp only [srcPay, xsv]; iexact Hs1
    isplitl [Hl2]; · iexact Hl2
    isplitl [HO]; · iexact HO
    iexact Ht2
  iintro ⟨Hc2, HO⟩
  iapply (wp_load_slice (fun _ => rfl)) $$ Hs2; iintro Hs2
  iapply (wp_store_slice (fun _ => rfl)) $$ Hs2; iintro Hs2
  iapply (wp_send κ (3 : Fin 9) 5 rfl (dev5_eq c) (ch2 mS) (ch2 mL) (xsv I c 2) rfl rfl rfl rfl rfl rfl) $$ [Hs2 Hl3 HO Ht3]
  · isplitr; · iexact HC
    isplitl [Hs2]; · dsimp only [srcPay, xsv]; iexact Hs2
    isplitl [Hl3]; · iexact Hl3
    isplitl [HO]; · iexact HO
    iexact Ht3
  iintro ⟨Hc3, HO⟩
  iapply (wp_load_slice (fun _ => rfl)) $$ Hs3; iintro Hs3
  iapply (wp_store_slice (fun _ => rfl)) $$ Hs3; iintro Hs3
  iapply wp_done
  iapply Hk
  isplitl [Hs3]; · iexact Hs3
  isplitl [Hc2]; · iexact Hc2
  isplitl [Hc3]; · iexact Hc3
  iexact HO

set_option maxHeartbeats 800000 in
/-- The fourth chunk leaves; the device's own first expert. -/
theorem part5_run (Q : _ → sProp 𝕄) :
    iprop(Ctx I κ ∗ own c (ch3 mS) (xsv I c 3)
        ∗ (landAny (peer c) 4 ∗ reached ER (rcvC (peer c) 4) 0) ∗ tokK c 4 ∗ owesR c 5
        ∗ own c mW1 (I.w1 c) ∗ own c mW2 (I.w2 c) ∗ own c mC (I.acol c))
      ⊢ iprop(((cred (tallyAt (sndC c 4) () (amt 4)) ∗ owesR c 4 ∗ own c mW1 (I.w1 c) ∗ own c mW2 (I.w2 c) ∗ own c mC (I.acol c))
            -∗ Q ⟨w1b I c, w2b I c, k0_pay15 (half c) (xb I c) (I.w1 c) (I.w2 c) (I.acol c), k0_pay16 (half c) (I.acol c), k0_pay17⟩)
          -∗ Wp c (ap k0_part5 c (half c) (xb I c)) Q) := by
  simp only [k0_part5_eq_skeleton]; unfold k0_part5_skel
  simp only [Prog.lift, Prog.bind_op, Prog.bind_ret, Prog.pure_eq_ret]
  iintro ⟨#HC, Hs, Hl, Ht, HO, H1, H2, HA⟩ Hk
  iapply (wp_send κ (4 : Fin 9) 4 rfl (dev6_eq c) (ch3 mS) (ch3 mL) (xsv I c 3) rfl rfl rfl rfl rfl rfl) $$ [Hs Hl HO Ht]
  · isplitr; · iexact HC
    isplitl [Hs]; · dsimp only [srcPay, asg, xsv]; iexact Hs
    isplitl [Hl]; · iexact Hl
    isplitl [HO]; · iexact HO
    iexact Ht
  iintro ⟨Hc, HO⟩
  iapply wp_load_full $$ H1; iintro H1
  iapply wp_load_full $$ H2; iintro H2
  iapply wp_load_full $$ HA; iintro HA
  iapply wp_load_full $$ HA; iintro HA
  iapply wp_done
  iapply Hk
  isplitl [Hc]; · iexact Hc
  isplitl [HO]; · iexact HO
  isplitl [H1]; · iexact H1
  isplitl [H2]; · iexact H2
  iexact HA

set_option maxHeartbeats 800000 in
/-- The device's own experts' contribution is stored; the peer's assignments and first chunk have landed. -/
theorem part6_run (v5 v8 v9 : BitVec 32) (Q : _ → sProp 𝕄) :
    iprop(Ctx I κ ∗ any c mO ∗ rcvK c 0 ∗ rcvK c 1 ∗ owesR c 4)
      ⊢ iprop(((own c mO (out0 I c) ∗ (own c mB (asg I (peer c)) ∗ semVal (rcvC c 0) 0)
              ∗ (own c (ch0 mL) (xsv I (peer c) 0) ∗ semVal (rcvC c 1) 0) ∗ owesR c 4)
            -∗ Q ⟨xsv I (peer c) 0, asgv I (peer c) 0⟩)
          -∗ Wp c (ap k0_part6 v5 v8 v9 (xb I c) (w1b I c) (w2b I c) (k0_pay15 (half c) (xb I c) (I.w1 c) (I.w2 c) (I.acol c))
              (k0_pay16 (half c) (I.acol c)) (k0_pay17 (F := F))) Q) := by
  simp only [k0_part6_eq_skeleton]; unfold k0_part6_skel
  simp only [Prog.lift, Prog.bind_op, Prog.bind_ret, Prog.pure_eq_ret]
  iintro ⟨#HC, Ho, Hr0, Hr1, HO⟩ Hk
  unfold any
  icases Ho with ⟨%Y, Ho⟩
  iapply wp_load_full $$ Ho; iintro Ho
  iapply wp_store_full $$ Ho; iintro Ho
  iapply (wp_landed κ (0 : Fin 9) 4 (by decide) (by decide) (I := I) rfl mA mB rfl) $$ [Hr0 HO]
  · isplitr; · iexact HC
    isplitl [Hr0]; · iexact Hr0
    iexact HO
  iintro ⟨Hb, Hz0, HO⟩
  iapply (wp_landed κ (1 : Fin 9) 4 (by decide) (by decide) (I := I) rfl (ch0 mS) (ch0 mL) rfl) $$ [Hr1 HO]
  · isplitr; · iexact HC
    isplitl [Hr1]; · iexact Hr1
    iexact HO
  iintro ⟨Hx, Hz1, HO⟩
  dsimp only [rcvPay]
  iapply (wp_load_slice (fun _ => rfl)) $$ Hx; iintro Hx
  iapply (wp_load_as (Rect.unit (s := S320x1) ![0, 0] S80x1.size inb_S320x1_S80x1_0_0) (asg I (peer c)) (asgv I (peer c) 0) rfl) $$ Hb; iintro Hb
  iapply wp_done
  iapply Hk
  isplitl [Ho]; · iexact Ho
  isplitl [Hb Hz0]
  · isplitl [Hb]; · iexact Hb
    iexact Hz0
  isplitl [Hx Hz1]
  · isplitl [Hx]; · iexact Hx
    iexact Hz1
  iexact HO

end Cert.Moe

end
-- ==== Proof.Parts2.lean ====
/- The kernel's body, part by part from the first received chunk on: each chunk is worked on and returned, the returned
   ones are added to the output, and the transfers are waited for. -/
module

public import proofs.«01_k».proof.Proof.Parts

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (κ : GSem nD τ sig → ℕ) (c : Dev nD)

set_option maxHeartbeats 800000 in
/-- The first received chunk is worked on. -/
theorem part7_run (v9 : BitVec 32) (Q : _ → sProp 𝕄) :
    iprop(any c (ch0 mT))
      ⊢ iprop(((own c (ch0 mT) (ret I c 0)) -∗ Q (Scalar.muli v9 4#32)) -∗ Wp c (ap k0_part7 (half c) v9 (w1b I c) (w2b I c) (xsv I (peer c) 0) (asgv I (peer c) 0)) Q) := by
  simp only [k0_part7_eq_skeleton]; unfold k0_part7_skel
  simp only [Prog.lift, Prog.bind_op, Prog.bind_ret, Prog.pure_eq_ret]
  iintro Hs Hk
  unfold any
  icases Hs with ⟨%Y, Hs⟩
  iapply (wp_load_slice (fun _ => rfl)) $$ Hs; iintro Hs
  iapply (wp_store_slice (fun _ => rfl)) $$ Hs; iintro Hs
  iapply wp_done
  iapply Hk
  dsimp only [ret]; iexact Hs

set_option maxHeartbeats 800000 in
/-- It is returned; the second chunk has landed. -/
theorem part8_run (v5 v8 v9 v249 : BitVec 32) (Q : _ → sProp 𝕄) :
    iprop(Ctx I κ ∗ own c (ch0 mT) (ret I c 0) ∗ (landAny (peer c) 5 ∗ reached ER (rcvC (peer c) 5) 0) ∗ tokK c 5 ∗ rcvK c 2 ∗ own c mB (asg I (peer c)) ∗ owesR c 4)
      ⊢ iprop(((cred (tallyAt (sndC c 5) () (amt 5)) ∗ own c (ch1 mL) (xsv I (peer c) 1) ∗ semVal (rcvC c 2) 0 ∗ own c mB (asg I (peer c)) ∗ owesR c 3) -∗ Q ⟨xsv I (peer c) 1, asgv I (peer c) 1, k0_pay20 (half c) (xsv I (peer c) 1) (asgv I (peer c) 1), k0_pay21 (w1b I c)⟩) -∗ Wp c (ap k0_part8 c (half c) v5 v8 v9 (w1b I c) v249) Q) := by
  simp only [k0_part8_eq_skeleton]; unfold k0_part8_skel
  simp only [Prog.lift, Prog.bind_op, Prog.bind_ret, Prog.pure_eq_ret]
  iintro ⟨#HC, Hs, Hl, Ht, Hr, Hb, HO⟩ Hk
  iapply (wp_send κ (5 : Fin 9) 3 rfl (dev7_eq c) (ch0 mT) (ch0 mU) (ret I c 0) rfl rfl rfl rfl rfl rfl) $$ [Hs Hl HO Ht]
  · isplitr; · iexact HC
    isplitl [Hs]; · dsimp only [srcPay, ret]; iexact Hs
    isplitl [Hl]; · iexact Hl
    isplitl [HO]; · iexact HO
    iexact Ht
  iintro ⟨Hc, HO⟩
  iapply (wp_landed κ (2 : Fin 9) 3 (by decide) (by decide) (I := I) rfl (ch1 mS) (ch1 mL) rfl) $$ [Hr HO]
  · isplitr; · iexact HC
    isplitl [Hr]; · iexact Hr
    iexact HO
  iintro ⟨Hx, Hz, HO⟩
  dsimp only [rcvPay]
  iapply (wp_load_slice (fun _ => rfl)) $$ Hx; iintro Hx
  iapply (wp_load_as (Rect.unit (s := S320x1) ![80, 0] S80x1.size inb_S320x1_S80x1_80_0) (asg I (peer c)) (asgv I (peer c) 1) rfl) $$ Hb; iintro Hb
  iapply wp_done
  iapply Hk
  isplitl [Hc]; · iexact Hc
  isplitl [Hx]; · iexact Hx
  isplitl [Hz]; · iexact Hz
  isplitl [Hb]; · iexact Hb
  iexact HO

set_option maxHeartbeats 800000 in
/-- The second received chunk is worked on. -/
theorem part9_run (v5 v8 v9 : BitVec 32) (Q : _ → sProp 𝕄) :
    iprop(any c (ch1 mT))
      ⊢ iprop(((own c (ch1 mT) (ret I c 1)) -∗ Q ⟨⟩) -∗ Wp c (ap k0_part9 (half c) v5 v8 v9 (w1b I c) (w2b I c) (xsv I (peer c) 1) (asgv I (peer c) 1) (k0_pay20 (half c) (xsv I (peer c) 1) (asgv I (peer c) 1)) (k0_pay21 (w1b I c))) Q) := by
  simp only [k0_part9_eq_skeleton]; unfold k0_part9_skel
  simp only [Prog.lift, Prog.bind_op, Prog.bind_ret, Prog.pure_eq_ret]
  iintro Hs Hk
  unfold any
  icases Hs with ⟨%Y, Hs⟩
  iapply (wp_load_slice (fun _ => rfl)) $$ Hs; iintro Hs
  iapply (wp_store_slice (fun _ => rfl)) $$ Hs; iintro Hs
  iapply wp_done
  iapply Hk
  dsimp only [ret]; iexact Hs

set_option maxHeartbeats 800000 in
/-- It is returned; the third chunk has landed. -/
theorem part10_run (v5 v8 v9 : BitVec 32) (Q : _ → sProp 𝕄) :
    iprop(Ctx I κ ∗ own c (ch1 mT) (ret I c 1) ∗ (landAny (peer c) 6 ∗ reached ER (rcvC (peer c) 6) 0) ∗ tokK c 6 ∗ rcvK c 3 ∗ own c mB (asg I (peer c)) ∗ owesR c 3)
      ⊢ iprop(((cred (tallyAt (sndC c 6) () (amt 6)) ∗ own c (ch2 mL) (xsv I (peer c) 2) ∗ semVal (rcvC c 3) 0 ∗ own c mB (asg I (peer c)) ∗ owesR c 2) -∗ Q ⟨xsv I (peer c) 2, asgv I (peer c) 2, k0_pay23 (half c) (w1b I c) (w2b I c) (xsv I (peer c) 2) (asgv I (peer c) 2), Scalar.addi (Scalar.muli (half c) 2#32) 1#32⟩) -∗ Wp c (ap k0_part10 c (half c) v5 v8 v9 (w1b I c) (w2b I c)) Q) := by
  simp only [k0_part10_eq_skeleton]; unfold k0_part10_skel
  simp only [Prog.lift, Prog.bind_op, Prog.bind_ret, Prog.pure_eq_ret]
  iintro ⟨#HC, Hs, Hl, Ht, Hr, Hb, HO⟩ Hk
  iapply (wp_send κ (6 : Fin 9) 2 rfl (dev8_eq c) (ch1 mT) (ch1 mU) (ret I c 1) rfl rfl rfl rfl rfl rfl) $$ [Hs Hl HO Ht]
  · isplitr; · iexact HC
    isplitl [Hs]; · dsimp only [srcPay, ret]; iexact Hs
    isplitl [Hl]; · iexact Hl
    isplitl [HO]; · iexact HO
    iexact Ht
  iintro ⟨Hc, HO⟩
  iapply (wp_landed κ (3 : Fin 9) 2 (by decide) (by decide) (I := I) rfl (ch2 mS) (ch2 mL) rfl) $$ [Hr HO]
  · isplitr; · iexact HC
    isplitl [Hr]; · iexact Hr
    iexact HO
  iintro ⟨Hx, Hz, HO⟩
  dsimp only [rcvPay]
  iapply (wp_load_slice (fun _ => rfl)) $$ Hx; iintro Hx
  iapply (wp_load_as (Rect.unit (s := S320x1) ![160, 0] S80x1.size inb_S320x1_S80x1_160_0) (asg I (peer c)) (asgv I (peer c) 2) rfl) $$ Hb; iintro Hb
  iapply wp_done
  iapply Hk
  isplitl [Hc]; · iexact Hc
  isplitl [Hx]; · iexact Hx
  isplitl [Hz]; · iexact Hz
  isplitl [Hb]; · iexact Hb
  iexact HO

set_option maxHeartbeats 800000 in
/-- The third received chunk is worked on and returned. -/
theorem part11_run (v5 v8 v9 : BitVec 32) (Q : _ → sProp 𝕄) :
    iprop(Ctx I κ ∗ any c (ch2 mT) ∗ (landAny (peer c) 7 ∗ reached ER (rcvC (peer c) 7) 0) ∗ tokK c 7 ∗ owesR c 2)
      ⊢ iprop(((cred (tallyAt (sndC c 7) () (amt 7)) ∗ owesR c 1) -∗ Q (Scalar.addi (Scalar.addi 0#32 (Scalar.muli v9 4#32)) (Scalar.muli v5 2#32))) -∗ Wp c (ap k0_part11 c v5 v8 v9 (w1b I c) (w2b I c) (xsv I (peer c) 2) (asgv I (peer c) 2) (k0_pay23 (half c) (w1b I c) (w2b I c) (xsv I (peer c) 2) (asgv I (peer c) 2)) (Scalar.addi (Scalar.muli (half c) 2#32) 1#32)) Q) := by
  simp only [k0_part11_eq_skeleton]; unfold k0_part11_skel
  simp only [Prog.lift, Prog.bind_op, Prog.bind_ret, Prog.pure_eq_ret]
  iintro ⟨#HC, Hs, Hl, Ht, HO⟩ Hk
  unfold any
  icases Hs with ⟨%Y, Hs⟩
  iapply (wp_load_slice (fun _ => rfl)) $$ Hs; iintro Hs
  iapply (wp_store_slice (fun _ => rfl)) $$ Hs; iintro Hs
  iapply (wp_send κ (7 : Fin 9) 1 rfl (dev9_eq c) (ch2 mT) (ch2 mU) (ret I c 2) rfl rfl rfl rfl rfl rfl) $$ [Hs Hl HO Ht]
  · isplitr; · iexact HC
    isplitl [Hs]; · dsimp only [srcPay, ret]; iexact Hs
    isplitl [Hl]; · iexact Hl
    isplitl [HO]; · iexact HO
    iexact Ht
  iintro ⟨Hc, HO⟩
  iapply wp_done
  iapply Hk
  isplitl [Hc]; · iexact Hc
  iexact HO

set_option maxHeartbeats 800000 in
/-- The fourth chunk has landed. -/
theorem part12_run (v8 v394 : BitVec 32) (Q : _ → sProp 𝕄) :
    iprop(Ctx I κ ∗ rcvK c 4 ∗ own c mB (asg I (peer c)) ∗ owesR c 1)
      ⊢ iprop(((own c (ch3 mL) (xsv I (peer c) 3) ∗ semVal (rcvC c 4) 0 ∗ own c mB (asg I (peer c)) ∗ owesR c 1) -∗ Q ⟨k0_pay25 (half c) (w1b I c) (w2b I c) (xsv I (peer c) 3) (asgv I (peer c) 3), k0_pay26 (half c) (w1b I c) (xsv I (peer c) 3) (asgv I (peer c) 3), k0_pay27⟩) -∗ Wp c (ap k0_part12 (half c) v8 (w1b I c) (w2b I c) v394) Q) := by
  simp only [k0_part12_eq_skeleton]; unfold k0_part12_skel
  simp only [Prog.lift, Prog.bind_op, Prog.bind_ret, Prog.pure_eq_ret]
  iintro ⟨#HC, Hr, Hb, HO⟩ Hk
  iapply (wp_landed κ (4 : Fin 9) 1 (by decide) (by decide) (I := I) rfl (ch3 mS) (ch3 mL) rfl) $$ [Hr HO]
  · isplitr; · iexact HC
    isplitl [Hr]; · iexact Hr
    iexact HO
  iintro ⟨Hx, Hz, HO⟩
  dsimp only [rcvPay]
  iapply (wp_load_slice (fun _ => rfl)) $$ Hx; iintro Hx
  iapply (wp_load_as (Rect.unit (s := S320x1) ![240, 0] S80x1.size inb_S320x1_S80x1_240_0) (asg I (peer c)) (asgv I (peer c) 3) rfl) $$ Hb; iintro Hb
  iapply wp_done
  iapply Hk
  isplitl [Hx]; · iexact Hx
  isplitl [Hz]; · iexact Hz
  isplitl [Hb]; · iexact Hb
  iexact HO

set_option maxHeartbeats 800000 in
/-- The fourth received chunk is worked on and returned; the first returned one is back. -/
theorem part13_run (v5 v8 v9 : BitVec 32) (Q : _ → sProp 𝕄) :
    iprop(Ctx I κ ∗ any c (ch3 mT) ∗ (landAny (peer c) 8 ∗ reached ER (rcvC (peer c) 8) 0) ∗ tokK c 8 ∗ rcvK c 5 ∗ owesR c 1)
      ⊢ iprop(((cred (tallyAt (sndC c 8) () (amt 8)) ∗ own c (ch0 mU) (ret I (peer c) 0) ∗ semVal (rcvC c 5) 0 ∗ owesR c 0) -∗ Q ⟨⟩) -∗ Wp c (ap k0_part13 c v5 v8 v9 (w2b I c) (k0_pay25 (half c) (w1b I c) (w2b I c) (xsv I (peer c) 3) (asgv I (peer c) 3)) (k0_pay26 (half c) (w1b I c) (xsv I (peer c) 3) (asgv I (peer c) 3)) (k0_pay27 (F := F))) Q) := by
  simp only [k0_part13_eq_skeleton]; unfold k0_part13_skel
  simp only [Prog.lift, Prog.bind_op, Prog.bind_ret, Prog.pure_eq_ret]
  iintro ⟨#HC, Hs, Hl, Ht, Hr, HO⟩ Hk
  unfold any
  icases Hs with ⟨%Y, Hs⟩
  iapply (wp_load_slice (fun _ => rfl)) $$ Hs; iintro Hs
  iapply (wp_store_slice (fun _ => rfl)) $$ Hs; iintro Hs
  iapply (wp_send κ (8 : Fin 9) 0 rfl (dev10_eq c) (ch3 mT) (ch3 mU) (ret I c 3) rfl rfl rfl rfl rfl rfl) $$ [Hs Hl HO Ht]
  · isplitr; · iexact HC
    isplitl [Hs]; · dsimp only [srcPay, ret]; iexact Hs
    isplitl [Hl]; · iexact Hl
    isplitl [HO]; · iexact HO
    iexact Ht
  iintro ⟨Hc, HO⟩
  iapply (wp_landed κ (5 : Fin 9) 0 (by decide) (by decide) (I := I) rfl (ch0 mT) (ch0 mU) rfl) $$ [Hr HO]
  · isplitr; · iexact HC
    isplitl [Hr]; · iexact Hr
    iexact HO
  iintro ⟨Hx, Hz, HO⟩
  dsimp only [rcvPay]
  iapply wp_done
  iapply Hk
  isplitl [Hc]; · iexact Hc
  isplitl [Hx]; · iexact Hx
  isplitl [Hz]; · iexact Hz
  iexact HO

set_option maxHeartbeats 800000 in
/-- The first two returned chunks are added to the output. -/
theorem part14_run (v5 v8 v9 : BitVec 32) (Q : _ → sProp 𝕄) :
    iprop(Ctx I κ ∗ own c (ch0 mU) (ret I (peer c) 0) ∗ own c mO (out0 I c) ∗ rcvK c 6 ∗ owesR c 0)
      ⊢ iprop(((own c (ch0 mU) (ret I (peer c) 0) ∗ own c (ch1 mU) (ret I (peer c) 1) ∗ semVal (rcvC c 6) 0 ∗ own c mO (out2 I c) ∗ owesR c 0) -∗ Q ⟨Scalar.addi (Scalar.addi 0#32 (Scalar.muli v9 4#32)) (Scalar.muli v5 2#32), Scalar.muli v8 1#32⟩) -∗ Wp c (ap k0_part14 v5 v8 v9 (gat I c)) Q) := by
  simp only [k0_part14_eq_skeleton]; unfold k0_part14_skel
  simp only [Prog.lift, Prog.bind_op, Prog.bind_ret, Prog.pure_eq_ret]
  iintro ⟨#HC, Hx, Ho, Hr, HO⟩ Hk
  iapply (wp_load_slice (fun _ => rfl)) $$ Hx; iintro Hx
  iapply wp_load_full $$ Ho; iintro Ho
  iapply wp_load_full $$ Ho; iintro Ho
  iapply wp_store_full $$ Ho; iintro Ho
  iapply (wp_landed κ (6 : Fin 9) 0 (by decide) (by decide) (I := I) rfl (ch1 mT) (ch1 mU) rfl) $$ [Hr HO]
  · isplitr; · iexact HC
    isplitl [Hr]; · iexact Hr
    iexact HO
  iintro ⟨Hy, Hz, HO⟩
  dsimp only [rcvPay]
  iapply (wp_load_slice (fun _ => rfl)) $$ Hy; iintro Hy
  iapply wp_load_full $$ Ho; iintro Ho
  iapply wp_load_full $$ Ho; iintro Ho
  iapply wp_store_full $$ Ho; iintro Ho
  iapply wp_done
  iapply Hk
  isplitl [Hx]; · iexact Hx
  isplitl [Hy]; · iexact Hy
  isplitl [Hz]; · iexact Hz
  isplitl [Ho]; · dsimp only [out2, out1]; iexact Ho
  iexact HO

set_option maxHeartbeats 800000 in
/-- The third is added, the fourth read. -/
theorem part15_run (v5 v8 v9 v493 v494 : BitVec 32) (Q : _ → sProp 𝕄) :
    iprop(Ctx I κ ∗ own c mO (out2 I c) ∗ rcvK c 7 ∗ rcvK c 8 ∗ owesR c 0)
      ⊢ iprop(((own c (ch2 mU) (ret I (peer c) 2) ∗ semVal (rcvC c 7) 0 ∗ own c (ch3 mU) (ret I (peer c) 3) ∗ semVal (rcvC c 8) 0 ∗ own c mO (out3 I c) ∗ owesR c 0) -∗ Q (out4 I c)) -∗ Wp c (ap k0_part15 v5 v8 v9 (gat I c) v493 v494) Q) := by
  simp only [k0_part15_eq_skeleton]; unfold k0_part15_skel
  simp only [Prog.lift, Prog.bind_op, Prog.bind_ret, Prog.pure_eq_ret]
  unfold out4 out3
  iintro ⟨#HC, Ho, Hr, Hs, HO⟩ Hk
  iapply (wp_landed κ (7 : Fin 9) 0 (by decide) (by decide) (I := I) rfl (ch2 mT) (ch2 mU) rfl) $$ [Hr HO]
  · isplitr; · iexact HC
    isplitl [Hr]; · iexact Hr
    iexact HO
  iintro ⟨Hx, Hz, HO⟩
  dsimp only [rcvPay]
  iapply (wp_load_slice (fun _ => rfl)) $$ Hx; iintro Hx
  iapply wp_load_full $$ Ho; iintro Ho
  iapply wp_load_full $$ Ho; iintro Ho
  iapply wp_store_full $$ Ho; iintro Ho
  iapply (wp_landed κ (8 : Fin 9) 0 (by decide) (by decide) (I := I) rfl (ch3 mT) (ch3 mU) rfl) $$ [Hs HO]
  · isplitr; · iexact HC
    isplitl [Hs]; · iexact Hs
    iexact HO
  iintro ⟨Hy, Hw, HO⟩
  dsimp only [rcvPay]
  iapply (wp_load_slice (fun _ => rfl)) $$ Hy; iintro Hy
  iapply wp_load_full $$ Ho; iintro Ho
  iapply wp_load_full $$ Ho; iintro Ho
  iapply wp_done
  iapply Hk
  isplitl [Hx]; · iexact Hx
  isplitl [Hz]; · iexact Hz
  isplitl [Hy]; · iexact Hy
  isplitl [Hw]; · iexact Hw
  isplitl [Ho]; · iexact Ho
  iexact HO

set_option maxHeartbeats 800000 in
/-- The output is final; the outward transfers have left. -/
theorem part16_run (Q : _ → sProp 𝕄) :
    iprop(Ctx I κ ∗ own c mO (out3 I c) ∗ sndK c 0 ∗ sndK c 1 ∗ sndK c 2 ∗ sndK c 3 ∗ sndK c 4 ∗ owesR c 0)
      ⊢ iprop(((own c mO (out4 I c) ∗ (srcPay I c 0 ∗ semVal (sndC c 0) 0) ∗ (srcPay I c 1 ∗ semVal (sndC c 1) 0) ∗ (srcPay I c 2 ∗ semVal (sndC c 2) 0) ∗ (srcPay I c 3 ∗ semVal (sndC c 3) 0) ∗ (srcPay I c 4 ∗ semVal (sndC c 4) 0) ∗ owesR c 0) -∗ Q ⟨⟩) -∗ Wp c (ap k0_part16 (out4 I c)) Q) := by
  simp only [k0_part16_eq_skeleton]; unfold k0_part16_skel
  simp only [Prog.lift, Prog.bind_op, Prog.bind_ret, Prog.pure_eq_ret]
  iintro ⟨#HC, Ho, Hs0, Hs1, Hs2, Hs3, Hs4, HO⟩ Hk
  iapply wp_store_full $$ Ho; iintro Ho
  iapply (wp_left κ (0 : Fin 9) (I := I) rfl mB mA rfl) $$ [Hs0 HO]
  · isplitr; · iexact HC
    isplitl [Hs0]; · iexact Hs0
    iexact HO
  iintro ⟨Hp0, Hz0, HO⟩
  iapply (wp_left κ (1 : Fin 9) (I := I) rfl (ch0 mL) (ch0 mS) rfl) $$ [Hs1 HO]
  · isplitr; · iexact HC
    isplitl [Hs1]; · iexact Hs1
    iexact HO
  iintro ⟨Hp1, Hz1, HO⟩
  iapply (wp_left κ (2 : Fin 9) (I := I) rfl (ch1 mL) (ch1 mS) rfl) $$ [Hs2 HO]
  · isplitr; · iexact HC
    isplitl [Hs2]; · iexact Hs2
    iexact HO
  iintro ⟨Hp2, Hz2, HO⟩
  iapply (wp_left κ (3 : Fin 9) (I := I) rfl (ch2 mL) (ch2 mS) rfl) $$ [Hs3 HO]
  · isplitr; · iexact HC
    isplitl [Hs3]; · iexact Hs3
    iexact HO
  iintro ⟨Hp3, Hz3, HO⟩
  iapply (wp_left κ (4 : Fin 9) (I := I) rfl (ch3 mL) (ch3 mS) rfl) $$ [Hs4 HO]
  · isplitr; · iexact HC
    isplitl [Hs4]; · iexact Hs4
    iexact HO
  iintro ⟨Hp4, Hz4, HO⟩
  iapply wp_done
  iapply Hk
  isplitl [Ho]; · iexact Ho
  isplitl [Hp0 Hz0]
  · isplitl [Hp0]; · iexact Hp0
    iexact Hz0
  isplitl [Hp1 Hz1]
  · isplitl [Hp1]; · iexact Hp1
    iexact Hz1
  isplitl [Hp2 Hz2]
  · isplitl [Hp2]; · iexact Hp2
    iexact Hz2
  isplitl [Hp3 Hz3]
  · isplitl [Hp3]; · iexact Hp3
    iexact Hz3
  isplitl [Hp4 Hz4]
  · isplitl [Hp4]; · iexact Hp4
    iexact Hz4
  iexact HO

end Cert.Moe

end
-- ==== Proof.Body.lean ====
/- The kernel's whole body on one device: from its inputs and the exchange's starting state to its output, every cell
   closed and every buffer back. -/
module

public import proofs.«01_k».proof.Proof.Parts2

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A separating conjunction over the nine transfers, written out. -/
theorem sep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [bigSep_eq_bigSepL_of_eq [0, 1, 2, 3, 4, 5, 6, 7, 8] (by decide) (by decide)]
  rfl

variable (I : Inp F) (κ : GSem nD τ sig → ℕ) (c : Dev nD)

/-- The five input windows. -/
def wins : sProp 𝕄 := iprop(own c mX (I.x c) ∗ own c mC (I.acol c) ∗ own c mR (I.arow c) ∗ own c mW1 (I.w1 c) ∗ own c mW2 (I.w2 c))
/-- The device's two sending buffers by chunk, and its assignment buffer, at anything. -/
def mine : sProp 𝕄 := iprop(any c mA ∗ any c (ch0 mS) ∗ any c (ch1 mS) ∗ any c (ch2 mS) ∗ any c (ch3 mS)
  ∗ any c (ch0 mT) ∗ any c (ch1 mT) ∗ any c (ch2 mT) ∗ any c (ch3 mT))

/-- What the body starts from. -/
def bodyPre : sProp 𝕄 :=
  iprop(Ctx I κ ∗ (∃ W, owes (c : Thread nD τ) (O₀ c) W) ∗ (dutyTok ER (barC (peer c)) 0 () ∗ reached ER (barC (peer c)) 0)
    ∗ (cred (tallyAt (barC c) () 1) ∗ atPos ER (barC c) 0 ∅ 0)
    ∗ (bigSep Finset.univ fun k : Fin 9 => iprop(landAny c k ∗ reached ER (rcvC c k) 0))
    ∗ (bigSep Finset.univ fun k : Fin 9 => tokK c k) ∗ (bigSep Finset.univ fun k : Fin 9 => rcvK c k)
    ∗ (bigSep Finset.univ fun k : Fin 9 => atPos ER (sndC c k) 0 ∅ 0) ∗ wins I c ∗ any c mO ∗ mine c)

/-- What it ends with. -/
def bodyPost : sProp 𝕄 :=
  iprop(wins I c ∗ own c mO (out4 I c) ∗ semVal (barC c) 0
    ∗ (bigSep Finset.univ fun k : Fin 9 => iprop(srcPay I c k ∗ semVal (sndC c k) 0))
    ∗ (bigSep Finset.univ fun k : Fin 9 => iprop(rcvPay I c (peer c) k ∗ semVal (rcvC c k) 0)) ∗ owesR c 0)

set_option maxHeartbeats 4000000 in
/-- One run of the body. -/
theorem body_run (Q : PUnit → sProp 𝕄) :
    iprop(bodyPre I κ c) ⊢ iprop((bodyPost I c -∗ Q ⟨⟩) -∗ Wp c (ap cc0_body) Q) := by
  simp only [cc0_body_eq_skeleton]; unfold cc0_body_skel
  unfold bodyPre bodyPost wins mine
  simp only [sep9]
  iintro ⟨#HC, HO, Htb, Hcb, Hl, ⟨Ht0, Ht1, Ht2, Ht3, Ht4, Ht5, Ht6, Ht7, Ht8⟩, ⟨Hr0, Hr1, Hr2, Hr3, Hr4, Hr5, Hr6, Hr7, Hr8⟩, ⟨Ha0, Ha1, Ha2, Ha3, Ha4, Ha5, Ha6, Ha7, Ha8⟩, ⟨HX, HA, HR, H1, H2⟩, Ho, ⟨Hm, Hs0, Hs1, Hs2, Hs3, Hg0, Hg1, Hg2, Hg3⟩⟩ Hk
  iapply wp_seq
  iapply (part1_run I κ c) $$ [HO Htb Hcb Hl HR]
  · isplitr; · iexact HC
    isplitl [HO]; · iexact HO
    isplitl [Htb]; · iexact Htb
    isplitl [Hcb]; · iexact Hcb
    isplitl [Hl]; · simp only [sep9]; iexact Hl
    iexact HR
  iintro ⟨Hl, Hzb, HO, HR⟩
  simp only [sep9]
  icases Hl with ⟨Hl0, Hl1, Hl2, Hl3, Hl4, Hl5, Hl6, Hl7, Hl8⟩
  try dsimp only
  iapply wp_seq
  iapply (part2_run I κ c _ _ _) $$ [HX HA Hm Hl0 HO Ht0]
  · isplitr; · iexact HC
    isplitl [HX]; · iexact HX
    isplitl [HA]; · iexact HA
    isplitl [Hm]; · iexact Hm
    isplitl [Hl0]; · iexact Hl0
    isplitl [HO]; · iexact HO
    iexact Ht0
  iintro ⟨HX, HA, Hc0, HO⟩
  try dsimp only
  iapply wp_seq
  iapply (part3_run I κ c _ _ _) $$ [Hs0 Hs1 Hl1 HO Ht1]
  · isplitr; · iexact HC
    isplitl [Hs0]; · iexact Hs0
    isplitl [Hs1]; · iexact Hs1
    isplitl [Hl1]; · iexact Hl1
    isplitl [HO]; · iexact HO
    iexact Ht1
  iintro ⟨Hs1, Hc1, HO⟩
  try dsimp only
  iapply wp_seq
  iapply (part4_run I κ c _ _ _) $$ [Hs1 Hs2 Hs3 Hl2 Ht2 Hl3 Ht3 HO]
  · isplitr; · iexact HC
    isplitl [Hs1]; · iexact Hs1
    isplitl [Hs2]; · iexact Hs2
    isplitl [Hs3]; · iexact Hs3
    isplitl [Hl2]; · iexact Hl2
    isplitl [Ht2]; · iexact Ht2
    isplitl [Hl3]; · iexact Hl3
    isplitl [Ht3]; · iexact Ht3
    iexact HO
  iintro ⟨Hs3, Hc2, Hc3, HO⟩
  try dsimp only
  iapply wp_seq
  iapply (part5_run I κ c) $$ [Hs3 Hl4 Ht4 HO H1 H2 HA]
  · isplitr; · iexact HC
    isplitl [Hs3]; · iexact Hs3
    isplitl [Hl4]; · iexact Hl4
    isplitl [Ht4]; · iexact Ht4
    isplitl [HO]; · iexact HO
    isplitl [H1]; · iexact H1
    isplitl [H2]; · iexact H2
    iexact HA
  iintro ⟨Hc4, HO, H1, H2, HA⟩
  try dsimp only
  iapply wp_seq
  iapply (part6_run I κ c _ _ _) $$ [Ho Hr0 Hr1 HO]
  · isplitr; · iexact HC
    isplitl [Ho]; · iexact Ho
    isplitl [Hr0]; · iexact Hr0
    isplitl [Hr1]; · iexact Hr1
    iexact HO
  iintro ⟨Ho, ⟨Hb, Hw0⟩, Hr1, HO⟩
  try dsimp only
  iapply wp_seq
  iapply (part7_run I c _) $$ [Hg0]
  · iexact Hg0
  iintro Hg0
  try dsimp only
  iapply wp_seq
  iapply (part8_run I κ c _ _ _ _) $$ [Hg0 Hl5 Ht5 Hr2 Hb HO]
  · isplitr; · iexact HC
    isplitl [Hg0]; · iexact Hg0
    isplitl [Hl5]; · iexact Hl5
    isplitl [Ht5]; · iexact Ht5
    isplitl [Hr2]; · iexact Hr2
    isplitl [Hb]; · iexact Hb
    iexact HO
  iintro ⟨Hc5, Hx2, Hw2, Hb, HO⟩
  try dsimp only
  iapply wp_seq
  iapply (part9_run I c _ _ _) $$ [Hg1]
  · iexact Hg1
  iintro Hg1
  try dsimp only
  iapply wp_seq
  iapply (part10_run I κ c _ _ _) $$ [Hg1 Hl6 Ht6 Hr3 Hb HO]
  · isplitr; · iexact HC
    isplitl [Hg1]; · iexact Hg1
    isplitl [Hl6]; · iexact Hl6
    isplitl [Ht6]; · iexact Ht6
    isplitl [Hr3]; · iexact Hr3
    isplitl [Hb]; · iexact Hb
    iexact HO
  iintro ⟨Hc6, Hx3, Hw3, Hb, HO⟩
  try dsimp only
  iapply wp_seq
  iapply (part11_run I κ c _ _ _) $$ [Hg2 Hl7 Ht7 HO]
  · isplitr; · iexact HC
    isplitl [Hg2]; · iexact Hg2
    isplitl [Hl7]; · iexact Hl7
    isplitl [Ht7]; · iexact Ht7
    iexact HO
  iintro ⟨Hc7, HO⟩
  try dsimp only
  iapply wp_seq
  iapply (part12_run I κ c _ _) $$ [Hr4 Hb HO]
  · isplitr; · iexact HC
    isplitl [Hr4]; · iexact Hr4
    isplitl [Hb]; · iexact Hb
    iexact HO
  iintro ⟨Hx4, Hw4, Hb, HO⟩
  try dsimp only
  iapply wp_seq
  iapply (part13_run I κ c _ _ _) $$ [Hg3 Hl8 Ht8 Hr5 HO]
  · isplitr; · iexact HC
    isplitl [Hg3]; · iexact Hg3
    isplitl [Hl8]; · iexact Hl8
    isplitl [Ht8]; · iexact Ht8
    isplitl [Hr5]; · iexact Hr5
    iexact HO
  iintro ⟨Hc8, Hx5, Hw5, HO⟩
  try dsimp only
  iapply wp_seq
  iapply (part14_run I κ c _ _ _) $$ [Hx5 Ho Hr6 HO]
  · isplitr; · iexact HC
    isplitl [Hx5]; · iexact Hx5
    isplitl [Ho]; · iexact Ho
    isplitl [Hr6]; · iexact Hr6
    iexact HO
  iintro ⟨Hx5, Hx6, Hw6, Ho, HO⟩
  try dsimp only
  iapply wp_seq
  iapply (part15_run I κ c _ _ _ _ _) $$ [Ho Hr7 Hr8 HO]
  · isplitr; · iexact HC
    isplitl [Ho]; · iexact Ho
    isplitl [Hr7]; · iexact Hr7
    isplitl [Hr8]; · iexact Hr8
    iexact HO
  iintro ⟨Hx7, Hw7, Hx8, Hw8, Ho, HO⟩
  try dsimp only
  iapply wp_seq
  iapply (part16_run I κ c) $$ [Ho Hc0 Ha0 Hc1 Ha1 Hc2 Ha2 Hc3 Ha3 Hc4 Ha4 HO]
  · isplitr; · iexact HC
    isplitl [Ho]; · iexact Ho
    unfold sndK
    isplitl [Hc0 Ha0]
    · isplitl [Hc0]; · iexact Hc0
      iexact Ha0
    isplitl [Hc1 Ha1]
    · isplitl [Hc1]; · iexact Hc1
      iexact Ha1
    isplitl [Hc2 Ha2]
    · isplitl [Hc2]; · iexact Hc2
      iexact Ha2
    isplitl [Hc3 Ha3]
    · isplitl [Hc3]; · iexact Hc3
      iexact Ha3
    isplitl [Hc4 Ha4]
    · isplitl [Hc4]; · iexact Hc4
      iexact Ha4
    iexact HO
  iintro ⟨Ho, Hp0, Hp1, Hp2, Hp3, Hp4, HO⟩
  try dsimp only
  simp only [Prog.lift, Prog.bind_op, Prog.bind_ret, Prog.pure_eq_ret]
  iapply (wp_left κ (5 : Fin 9) (I := I) rfl (ch0 mU) (ch0 mT) rfl) $$ [Hc5 Ha5 HO]
  · isplitr; · iexact HC
    unfold sndK
    isplitl [Hc5 Ha5]
    · isplitl [Hc5]; · iexact Hc5
      iexact Ha5
    iexact HO
  iintro ⟨Hq5, Hv5, HO⟩
  iapply (wp_left κ (6 : Fin 9) (I := I) rfl (ch1 mU) (ch1 mT) rfl) $$ [Hc6 Ha6 HO]
  · isplitr; · iexact HC
    unfold sndK
    isplitl [Hc6 Ha6]
    · isplitl [Hc6]; · iexact Hc6
      iexact Ha6
    iexact HO
  iintro ⟨Hq6, Hv6, HO⟩
  iapply (wp_left κ (7 : Fin 9) (I := I) rfl (ch2 mU) (ch2 mT) rfl) $$ [Hc7 Ha7 HO]
  · isplitr; · iexact HC
    unfold sndK
    isplitl [Hc7 Ha7]
    · isplitl [Hc7]; · iexact Hc7
      iexact Ha7
    iexact HO
  iintro ⟨Hq7, Hv7, HO⟩
  iapply (wp_left κ (8 : Fin 9) (I := I) rfl (ch3 mU) (ch3 mT) rfl) $$ [Hc8 Ha8 HO]
  · isplitr; · iexact HC
    unfold sndK
    isplitl [Hc8 Ha8]
    · isplitl [Hc8]; · iexact Hc8
      iexact Ha8
    iexact HO
  iintro ⟨Hq8, Hv8, HO⟩
  iapply wp_done
  iapply Hk
  isplitl [HX HA HR H1 H2]
  · isplitl [HX]; · iexact HX
    isplitl [HA]; · iexact HA
    isplitl [HR]; · iexact HR
    isplitl [H1]; · iexact H1
    iexact H2
  isplitl [Ho]; · iexact Ho
  isplitl [Hzb]; · iexact Hzb
  isplitl [Hp0 Hp1 Hp2 Hp3 Hp4 Hq5 Hv5 Hq6 Hv6 Hq7 Hv7 Hq8 Hv8]
  · isplitl [Hp0]; · iexact Hp0
    isplitl [Hp1]; · iexact Hp1
    isplitl [Hp2]; · iexact Hp2
    isplitl [Hp3]; · iexact Hp3
    isplitl [Hp4]; · iexact Hp4
    isplitl [Hq5 Hv5]
    · isplitl [Hq5]; · iexact Hq5
      iexact Hv5
    isplitl [Hq6 Hv6]
    · isplitl [Hq6]; · iexact Hq6
      iexact Hv6
    isplitl [Hq7 Hv7]
    · isplitl [Hq7]; · iexact Hq7
      iexact Hv7
    isplitl [Hq8]; · iexact Hq8
    iexact Hv8
  isplitl [Hb Hw0 Hr1 Hx2 Hw2 Hx3 Hw3 Hx4 Hw4 Hx5 Hw5 Hx6 Hw6 Hx7 Hw7 Hx8 Hw8]
  · dsimp only [rcvPay]
    isplitl [Hb Hw0]
    · isplitl [Hb]; · iexact Hb
      iexact Hw0
    isplitl [Hr1]; · iexact Hr1
    isplitl [Hx2 Hw2]
    · isplitl [Hx2]; · iexact Hx2
      iexact Hw2
    isplitl [Hx3 Hw3]
    · isplitl [Hx3]; · iexact Hx3
      iexact Hw3
    isplitl [Hx4 Hw4]
    · isplitl [Hx4]; · iexact Hx4
      iexact Hw4
    isplitl [Hx5 Hw5]
    · isplitl [Hx5]; · iexact Hx5
      iexact Hw5
    isplitl [Hx6 Hw6]
    · isplitl [Hx6]; · iexact Hx6
      iexact Hw6
    isplitl [Hx7 Hw7]
    · isplitl [Hx7]; · iexact Hx7
      iexact Hw7
    isplitl [Hx8]; · iexact Hx8
    iexact Hw8
  iexact HO

end Cert.Moe

end
-- ==== Proof.Scratch.lean ====
/- The scratch buffers at the region's two ends: a buffer of 320 rows is its four chunks of eighty, and the four chunks
   are the buffer. -/
module

public import proofs.«01_k».proof.Proof.Body
public import Idealize.ShloMosaic.Lib.MemrefSat

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The four chunks as a family. -/
def rcs (t : Fin 4) : Rect S320x512 := Rect.unit (s := S320x512) ![80 * t.val, 0] S80x512.size (by
  have := t.isLt
  intro a; fin_cases a
  · show 80 * t.val + 80 ≤ 320; omega
  · show 0 + 512 ≤ 512; omega)

/-- The rows of two chunks are apart, -/
theorem rcs_disj (t t' : Fin 4) (h : t ≠ t') : Disjoint (rcs t).set (rcs t').set := by
  unfold rcs
  refine Rect.unit_disjoint (0 : Fin 2) ?_
  have : t.val ≠ t'.val := fun e => h (Fin.ext e)
  show 80 * t.val + 80 ≤ 80 * t'.val ∨ 80 * t'.val + 80 ≤ 80 * t.val
  omega

/-- and the four chunks cover all rows. -/
theorem rcs_cover : (Finset.univ : Finset (Fin 4)).biUnion (fun t => (rcs t).set) = Finset.univ := by
  ext i
  refine ⟨fun _ => Finset.mem_univ _, fun _ => ?_⟩
  have h0 : (i 0).val < 320 := (i 0).isLt
  have h1 : (i 1).val < 512 := (i 1).isLt
  refine Finset.mem_biUnion.mpr ⟨⟨(i 0).val / 80, by omega⟩, Finset.mem_univ _, ?_⟩
  unfold rcs
  refine Rect.mem_set_unit.mpr fun a => ?_
  fin_cases a
  · show 80 * ((i 0).val / 80) ≤ (i 0).val ∧ (i 0).val < 80 * ((i 0).val / 80) + 80; omega
  · show 0 ≤ (i 1).val ∧ (i 1).val < 0 + 512; omega

omit [FloatOps F] in
/-- A conjunction over four is four conjuncts. -/
theorem sep4 (Φ : Fin 4 → sProp 𝕄) : bigSep Finset.univ Φ = iprop(Φ 0 ∗ Φ 1 ∗ Φ 2 ∗ Φ 3) := by
  rw [bigSep_eq_bigSepL_of_eq [0, 1, 2, 3] (by decide) (by decide)]
  rfl

omit [FloatOps F] in
/-- A whole buffer at some contents is its four chunks at some contents, -/
theorem any_split (c : Dev nD) (m : Memref sig .tc .vmem S320x512 .bf16) :
    (any (F := F) c m : sProp 𝕄) ⊢ iprop(any c (ch0 m) ∗ any c (ch1 m) ∗ any c (ch2 m) ∗ any c (ch3 m)) := by
  unfold any
  iintro ⟨%X, H⟩
  ihave H := ((owns_rects (c : Thread nD τ) m fullShare rcs (fun _ _ => rfl) rcs_disj rcs_cover X).trans (Entails.of_eq (sep4 _))) $$ H
  icases H with ⟨H0, H1, H2, H3⟩
  isplitl [H0]; · iexists (fun j => X ((rcs 0).emb j)); iexact H0
  isplitl [H1]; · iexists (fun j => X ((rcs 1).emb j)); iexact H1
  isplitl [H2]; · iexists (fun j => X ((rcs 2).emb j)); iexact H2
  iexists (fun j => X ((rcs 3).emb j)); iexact H3

/-- and back. -/
theorem any_join (c : Dev nD) (m : Memref sig .tc .vmem S320x512 .bf16) :
    iprop(any c (ch0 m) ∗ any c (ch1 m) ∗ any c (ch2 m) ∗ any c (ch3 m)) ⊢ (any (F := F) c m : sProp 𝕄) := by
  have h := ownsSat_of_rects (Val := Elt F) (Ix := Unit) (Name := ℕ) (U := UU) (Lvl := ℕ) (c : Thread nD τ) m fullShare rcs (fun _ _ => rfl) rcs_disj rcs_cover
    (fun _ _ => True)
  rw [sep4] at h
  unfold any
  iintro ⟨⟨%X0, H0⟩, ⟨%X1, H1⟩, ⟨%X2, H2⟩, ⟨%X3, H3⟩⟩
  ihave H := h $$ [H0 H1 H2 H3]
  · isplitl [H0]; · iapply (ownsSat_intro (c : Thread nD τ) (ch0 m) fullShare (Φ := fun _ => True) (X := X0) trivial); iexact H0
    isplitl [H1]; · iapply (ownsSat_intro (c : Thread nD τ) (ch1 m) fullShare (Φ := fun _ => True) (X := X1) trivial); iexact H1
    isplitl [H2]; · iapply (ownsSat_intro (c : Thread nD τ) (ch2 m) fullShare (Φ := fun _ => True) (X := X2) trivial); iexact H2
    iapply (ownsSat_intro (c : Thread nD τ) (ch3 m) fullShare (Φ := fun _ => True) (X := X3) trivial); iexact H3
  ihave H := (ownsSat_elim (c : Thread nD τ) m fullShare _) $$ H
  icases H with ⟨%X, -, H⟩
  iexists X; iexact H

omit [FloatOps F] in
/-- The region's scoped buffers: each scratch buffer whole at some contents. -/
theorem scoped_eq (c : Dev nD) :
    (Pipeline.scopedRest (Ix := Unit) (Name := ℕ) (U := UU) (Lvl := ℕ) (Val := Elt F) spec0 c : sProp 𝕄)
      = iprop(any c mS ∗ any c mL ∗ any c mA ∗ any c mB ∗ any c mT ∗ any c mU) := by
  rw [scopedRest0_eq]
  unfold any own
  simp only [owns_whole]
  rfl

/-- Landing buffers and the device's own ones, by chunk: all of the scratch. -/
theorem scratch_open (c : Dev nD) :
    (Pipeline.scopedRest (Ix := Unit) (Name := ℕ) (U := UU) (Lvl := ℕ) (Val := Elt F) spec0 c : sProp 𝕄)
      ⊢ iprop((bigSep Finset.univ fun k : Fin 9 => landAny c k) ∗ mine c) := by
  rw [scoped_eq, sep9]
  unfold mine
  iintro ⟨HS, HL, HA, HB, HT, HU⟩
  ihave HS := (any_split c mS) $$ HS
  ihave HL := (any_split c mL) $$ HL
  ihave HT := (any_split c mT) $$ HT
  ihave HU := (any_split c mU) $$ HU
  icases HS with ⟨S0, S1, S2, S3⟩
  icases HL with ⟨L0, L1, L2, L3⟩
  icases HT with ⟨T0, T1, T2, T3⟩
  icases HU with ⟨U0, U1, U2, U3⟩
  dsimp only [landAny]
  isplitl [HB L0 L1 L2 L3 U0 U1 U2 U3]
  · isplitl [HB]; · iexact HB
    isplitl [L0]; · iexact L0
    isplitl [L1]; · iexact L1
    isplitl [L2]; · iexact L2
    isplitl [L3]; · iexact L3
    isplitl [U0]; · iexact U0
    isplitl [U1]; · iexact U1
    isplitl [U2]; · iexact U2
    iexact U3
  isplitl [HA]; · iexact HA
  isplitl [S0]; · iexact S0
  isplitl [S1]; · iexact S1
  isplitl [S2]; · iexact S2
  isplitl [S3]; · iexact S3
  isplitl [T0]; · iexact T0
  isplitl [T1]; · iexact T1
  isplitl [T2]; · iexact T2
  iexact T3

/-- And what the body leaves is all of it again. -/
theorem scratch_close (I : Inp F) (c d : Dev nD) :
    iprop((bigSep Finset.univ fun k : Fin 9 => srcPay I c k) ∗ (bigSep Finset.univ fun k : Fin 9 => rcvPay I c d k))
      ⊢ (Pipeline.scopedRest (Ix := Unit) (Name := ℕ) (U := UU) (Lvl := ℕ) (Val := Elt F) spec0 c : sProp 𝕄) := by
  rw [scoped_eq, sep9, sep9]
  dsimp only [srcPay, rcvPay]
  iintro ⟨⟨HA, S0, S1, S2, S3, T0, T1, T2, T3⟩, ⟨HB, L0, L1, L2, L3, U0, U1, U2, U3⟩⟩
  isplitl [S0 S1 S2 S3]
  · iapply (any_join c mS)
    isplitl [S0]; · iapply (own_any c _ _); iexact S0
    isplitl [S1]; · iapply (own_any c _ _); iexact S1
    isplitl [S2]; · iapply (own_any c _ _); iexact S2
    iapply (own_any c _ _); iexact S3
  isplitl [L0 L1 L2 L3]
  · iapply (any_join c mL)
    isplitl [L0]; · iapply (own_any c _ _); iexact L0
    isplitl [L1]; · iapply (own_any c _ _); iexact L1
    isplitl [L2]; · iapply (own_any c _ _); iexact L2
    iapply (own_any c _ _); iexact L3
  isplitl [HA]; · iapply (own_any c _ _); iexact HA
  isplitl [HB]; · iapply (own_any c _ _); iexact HB
  isplitl [T0 T1 T2 T3]
  · iapply (any_join c mT)
    isplitl [T0]; · iapply (own_any c _ _); iexact T0
    isplitl [T1]; · iapply (own_any c _ _); iexact T1
    isplitl [T2]; · iapply (own_any c _ _); iexact T2
    iapply (own_any c _ _); iexact T3
  iapply (any_join c mU)
  isplitl [U0]; · iapply (own_any c _ _); iexact U0
  isplitl [U1]; · iapply (own_any c _ _); iexact U1
  isplitl [U2]; · iapply (own_any c _ _); iexact U2
  iapply (own_any c _ _); iexact U3

end Cert.Moe

end
-- ==== Proof.Start.lean ====
/- The launch of the exchange: every cell's invariant made, the barrier cells live and the transfer cells asleep until
   the region gives their counters, the tokens handed to the devices that pay with them. -/
module

public import proofs.«01_k».proof.Proof.Scratch
public import Idealize.ShloMosaic.Lib.Rounds.Family

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One token per cell. -/
def Tk : Finset (GSem nD τ sig × ℕ × Unit) := (Sb ∪ Sd).map ⟨fun g => (g, 0, ()), fun _ _ h => congrArg Prod.fst h⟩

/-- The exchange's part of the launch element. -/
def uX : UB := launchOf Sb Sd Tk

omit [FloatOps F] in
/-- A conjunction over the barrier counters is one over the devices, -/
theorem sep_Sb (Φ : GSem nD τ sig → sProp 𝕄) : bigSep Sb Φ = bigSep Finset.univ fun c : Dev nD => Φ (barC c) := by
  unfold Sb; rw [bigSep_map]; rfl

omit [FloatOps F] in
/-- A device's eighteen transfer cells: nine sending, nine landing. -/
theorem sep18 (c : Dev nD) (Φ : GSem nD τ sig → sProp 𝕄) :
    (bigSep Finset.univ fun i : Fin 18 => Φ (dmaC (c, i)))
      = iprop((bigSep Finset.univ fun k : Fin 9 => Φ (sndC c k)) ∗ (bigSep Finset.univ fun k : Fin 9 => Φ (rcvC c k))) := by
  rw [bigSep_univ_equiv (finSumFinEquiv : Fin 9 ⊕ Fin 9 ≃ Fin 18) (fun i : Fin 18 => Φ (dmaC (c, i))), bigSep_univ_sum]
  exact congrArg₂ _ (bigSep_congr fun k _ => rfl) (bigSep_congr fun k _ => by rw [rcvC_eq]; rfl)

omit [FloatOps F] in
/-- and one over the copy counters is one over the devices and the eighteen counters of each. -/
theorem sep_Sd (Φ : GSem nD τ sig → sProp 𝕄) : bigSep Sd Φ = bigSep Finset.univ fun c : Dev nD => bigSep Finset.univ fun i : Fin 18 => Φ (dmaC (c, i)) := by
  unfold Sd; rw [bigSep_map, bigSep_univ_prod]; rfl

omit [FloatOps F] in
/-- The tickets, device by device and counter by counter. -/
theorem sep_Tk :
    bigSep Tk (fun x => (dutyTok ER x.1 x.2.1 x.2.2 : sProp 𝕄))
      = iprop((bigSep Finset.univ fun c : Dev nD => dutyTok ER (barC c) 0 ())
          ∗ bigSep Finset.univ fun c : Dev nD => iprop((bigSep Finset.univ fun k : Fin 9 => dutyTok ER (sndC c k) 0 ())
            ∗ bigSep Finset.univ fun k : Fin 9 => dutyTok ER (rcvC c k) 0 ())) := by
  unfold Tk
  rw [bigSep_map, bigSep_union disj, sep_Sb, sep_Sd]
  exact congrArg _ (bigSep_congr fun c _ => sep18 c fun g => dutyTok ER g 0 ())

omit [FloatOps F] in
/-- The credit of a sum is the two credits. -/
theorem cred_split (a b : CellTallies nD τ sig Unit) : (cred (a + b) : sProp 𝕄) = iprop(cred a ∗ cred b) :=
  BI.Entails.antisymm (cred_add _ _).1 (cred_add _ _).2

omit [FloatOps F] in
/-- A device's launch credit: its barrier's unit and its nine landings'. -/
theorem cred_Tot (c : Dev nD) :
    (cred (Tot c) : sProp 𝕄) ⊢ iprop(cred (tallyAt (barC c) () 1) ∗ bigSep Finset.univ fun k : Fin 9 => cred (tallyAt (rcvC c k) () (amt k))) := by
  unfold Tot
  rw [Owe_succ c 0 8 rfl, Owe_succ c 1 7 rfl, Owe_succ c 2 6 rfl, Owe_succ c 3 5 rfl, Owe_succ c 4 4 rfl, Owe_succ c 5 3 rfl,
    Owe_succ c 6 2 rfl, Owe_succ c 7 1 rfl, Owe_succ c 8 0 rfl]
  simp only [cred_split, sep9]
  iintro ⟨⟨⟨⟨⟨⟨⟨⟨⟨⟨-, H8⟩, H7⟩, H6⟩, H5⟩, H4⟩, H3⟩, H2⟩, H1⟩, H0⟩, HB⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

variable (I : Inp F)

/-- Every cell's invariant, under one choice of names. -/
def invs (κ : GSem nD τ sig → ℕ) : sProp 𝕄 := bigSep (Sb ∪ Sd) fun g => cellInv ER (Rd I) (κ g) g

instance invs_persistent (κ : GSem nD τ sig → ℕ) : BI.Persistent (invs I κ) := by unfold invs; infer_instance

/-- What a device holds of the exchange from the launch to its kernel. -/
def dealt (c : Dev nD) : sProp 𝕄 :=
  iprop((∃ κ, invs I κ) ∗ (dutyTok ER (barC (peer c)) 0 () ∗ reached ER (barC (peer c)) 0) ∗ atPos ER (barC c) 0 ∅ 0
    ∗ (bigSep Finset.univ fun i : Fin 18 => openTok ER (dmaC (c, i)))
    ∗ (bigSep Finset.univ fun k : Fin 9 => dutyTok ER (sndC c k) 0 ())
    ∗ (bigSep Finset.univ fun k : Fin 9 => dutyTok ER (rcvC (peer c) k) 0 ()))

/-- The barrier counters at zero and the exchange's launch element make what every device holds. -/
theorem deal :
    iprop((bigSep Finset.univ fun c : Dev nD => semVal (barC c) 0) ∗ BI.own (ER uX))
      ⊢ (|={Set.univ}=> bigSep Finset.univ fun c : Dev nD => dealt I c : sProp 𝕄) := by
  have hc (c : Dev nD) (_ : c ∈ (Finset.univ : Finset (Dev nD))) :
      iprop(((∃ κ, invs I κ) ∗ bigSep Finset.univ fun n : Dev nD => reached ER (barC n) 0)
          ∗ (dutyTok ER (barC (peer c)) 0 () ∗ atPos ER (barC c) 0 ∅ 0
            ∗ (bigSep Finset.univ fun i : Fin 18 => openTok ER (dmaC (c, i)))
            ∗ (bigSep Finset.univ fun k : Fin 9 => dutyTok ER (sndC c k) 0 ())
            ∗ (bigSep Finset.univ fun k : Fin 9 => dutyTok ER (rcvC (peer c) k) 0 ())))
        ⊢ (dealt I c : sProp 𝕄) := by
    have hel : (bigSep Finset.univ fun n : Dev nD => (reached ER (barC n) 0 : sProp 𝕄)) ⊢ reached ER (barC (peer c)) 0 :=
      BI.bigSep_elim (Finset.mem_univ _)
    unfold dealt
    iintro ⟨⟨#HI, #Hr⟩, Ht, Ha, Hr2⟩
    isplitr; · iexact HI
    isplitl [Ht]
    · isplitl [Ht]; · iexact Ht
      iapply hel; iexact Hr
    isplitl [Ha]; · iexact Ha
    iexact Hr2
  have hS : (bigSep Finset.univ fun c : Dev nD => (semVal (barC c) 0 : sProp 𝕄)) ⊢ bigSep Sb (fun g => semVal g 0) :=
    Entails.of_eq (sep_Sb (F := F) fun g => semVal g 0).symm
  iintro ⟨Hv, Hu⟩
  ihave Hv := hS $$ Hv
  imod (fund_launch ER (Rd I) disj (fun _ _ h => h) Tk (Es := Set.univ)) $$ [Hv Hu] with ⟨%κ, -, #HI, #Hr, Hat, Hop, Htok⟩
  · isplitl [Hv]; · iexact Hv
    iexact Hu
  imodintro
  ihave Hr' := (Entails.of_eq (sep_Sb fun g => (reached ER g 0 : sProp 𝕄))) $$ Hr
  ihave Hat := (Entails.of_eq (sep_Sb fun g => (atPos ER g 0 ∅ 0 : sProp 𝕄))) $$ Hat
  ihave Hop := (Entails.of_eq (sep_Sd fun g => (openTok ER g : sProp 𝕄))) $$ Hop
  ihave Htok := (Entails.of_eq (sep_Tk (F := F))) $$ Htok
  icases Htok with ⟨Htb, Htd⟩
  ihave Htb := (Entails.of_eq (bigSep_univ_equiv peerEquiv (fun c : Dev nD => (dutyTok ER (barC c) 0 () : sProp 𝕄)))) $$ Htb
  ihave Htd := (Entails.of_eq (bigSep_sep' Finset.univ (fun c : Dev nD => (bigSep Finset.univ fun k : Fin 9 => dutyTok ER (sndC c k) 0 () : sProp 𝕄))
    (fun c => bigSep Finset.univ fun k : Fin 9 => dutyTok ER (rcvC c k) 0 ()))) $$ Htd
  icases Htd with ⟨Hts, Htr⟩
  ihave Htr := (Entails.of_eq (bigSep_univ_equiv peerEquiv (fun c : Dev nD => (bigSep Finset.univ fun k : Fin 9 => dutyTok ER (rcvC c k) 0 () : sProp 𝕄)))) $$ Htr
  iapply (bigSep_with_persistent (R := iprop((∃ κ, invs I κ) ∗ bigSep Finset.univ fun n : Dev nD => reached ER (barC n) 0)) hc)
  isplitr
  · isplitr
    · iexists κ; unfold invs; iexact HI
    iexact Hr'
  iapply (show iprop((bigSep Finset.univ fun c : Dev nD => dutyTok ER (barC (peer c)) 0 ())
        ∗ (bigSep Finset.univ fun c : Dev nD => atPos ER (barC c) 0 ∅ 0)
        ∗ (bigSep Finset.univ fun c : Dev nD => bigSep Finset.univ fun i : Fin 18 => openTok ER (dmaC (c, i)))
        ∗ (bigSep Finset.univ fun c : Dev nD => bigSep Finset.univ fun k : Fin 9 => dutyTok ER (sndC c k) 0 ())
        ∗ (bigSep Finset.univ fun c : Dev nD => bigSep Finset.univ fun k : Fin 9 => dutyTok ER (rcvC (peer c) k) 0 ()))
      ⊢ (bigSep Finset.univ fun c : Dev nD => iprop(dutyTok ER (barC (peer c)) 0 () ∗ atPos ER (barC c) 0 ∅ 0
            ∗ (bigSep Finset.univ fun i : Fin 18 => openTok ER (dmaC (c, i)))
            ∗ (bigSep Finset.univ fun k : Fin 9 => dutyTok ER (sndC c k) 0 ())
            ∗ (bigSep Finset.univ fun k : Fin 9 => dutyTok ER (rcvC (peer c) k) 0 ())) : sProp 𝕄)
      from by rw [bigSep_sep', bigSep_sep', bigSep_sep', bigSep_sep'])
  isplitl [Htb]; · iexact Htb
  isplitl [Hat]; · iexact Hat
  isplitl [Hop]; · iexact Hop
  isplitl [Hts]; · iexact Hts
  iexact Htr

/-- What enters the kernel's invariant beside the scratch: the exchange's starting state, every cell live. -/
def ready (c : Dev nD) : sProp 𝕄 :=
  iprop(∃ κ, Ctx I κ ∗ (dutyTok ER (barC (peer c)) 0 () ∗ reached ER (barC (peer c)) 0)
    ∗ (cred (tallyAt (barC c) () 1) ∗ atPos ER (barC c) 0 ∅ 0)
    ∗ (bigSep Finset.univ fun k : Fin 9 => reached ER (rcvC c k) 0)
    ∗ (bigSep Finset.univ fun k : Fin 9 => tokK c k) ∗ (bigSep Finset.univ fun k : Fin 9 => rcvK c k)
    ∗ (bigSep Finset.univ fun k : Fin 9 => atPos ER (sndC c k) 0 ∅ 0))

/-- The transfer counters at zero wake a device's transfer cells. -/
theorem wake (c : Dev nD) :
    iprop((dealt I c ∗ cred (Tot c)) ∗ Pipeline.ownSems0 osem c ∗ levAts L lv) ⊢ (|={Set.univ}=> ready I c : sProp 𝕄) := by
  unfold dealt
  iintro ⟨⟨⟨⟨%κ, #HI⟩, Hb, Ha, Hop, Hts, Htr⟩, Hcr⟩, Hos, #Hlev⟩
  have hinv : (invs I κ : sProp 𝕄) ⊢ bigSep Finset.univ fun i : Fin 18 => cellInv ER (Rd I) (κ (dmaC (c, i))) (dmaC (c, i)) := by
    unfold invs
    exact BI.bigSep_intro_persistent fun i _ =>
      BI.bigSep_elim (Φ := fun g => (cellInv ER (Rd I) (κ g) g : sProp 𝕄)) (Finset.mem_union_right _ (Finset.mem_map.mpr ⟨(c, i), Finset.mem_univ _, rfl⟩))
  ihave Hci := hinv $$ HI
  have hopen : iprop((bigSep Finset.univ fun i : Fin 18 => cellInv ER (Rd I) (κ (dmaC (c, i))) (dmaC (c, i)))
        ∗ (bigSep Finset.univ fun i : Fin 18 => openTok ER (dmaC (c, i))) ∗ Pipeline.ownSems0 osem c)
      ⊢ (|={Set.univ}=> iprop(((bigSep Finset.univ fun k : Fin 9 => atPos ER (sndC c k) 0 ∅ 0) ∗ (bigSep Finset.univ fun k : Fin 9 => atPos ER (rcvC c k) 0 ∅ 0))
          ∗ ((bigSep Finset.univ fun k : Fin 9 => reached ER (sndC c k) 0) ∗ (bigSep Finset.univ fun k : Fin 9 => reached ER (rcvC c k) 0))) : sProp 𝕄) := by
    have h := cells_open (Ix := Unit) (Name := ℕ) (Lvl := ℕ) ER (Rd I) (Finset.univ : Finset (Fin 18)) (fun i => dmaC (c, i)) (fun i => κ (dmaC (c, i))) (Es := Set.univ)
      (fun _ _ => Set.mem_univ _)
    rw [bigSep_sep', bigSep_sep', sep18 c (fun g => atPos ER g 0 ∅ 0), sep18 c (fun g => reached ER g 0)] at h
    refine BIBase.Entails.trans ?_ h
    unfold Pipeline.ownSems0
    iintro ⟨H1, H2, H3⟩
    isplitl [H1 H2]
    · isplitl [H1]; · iexact H1
      iexact H2
    iexact H3
  imod hopen $$ [Hci Hop Hos] with ⟨⟨Has, Har⟩, Hrs, Hrr⟩
  · isplitl [Hci]; · iexact Hci
    isplitl [Hop]; · iexact Hop
    iexact Hos
  ihave Hcr := (cred_Tot c) $$ Hcr
  icases Hcr with ⟨Hcb, Hcr⟩
  imodintro
  unfold ready
  iexists κ
  isplitr
  · unfold Ctx; isplitr
    · unfold invs; iexact HI
    iexact Hlev
  isplitl [Hb]; · iexact Hb
  isplitl [Hcb Ha]
  · isplitl [Hcb]; · iexact Hcb
    iexact Ha
  isplitl [Hrr]; · iexact Hrr
  isplitl [Hts Htr Hrs]
  · unfold tokK
    iapply (show iprop((bigSep Finset.univ fun k : Fin 9 => dutyTok ER (sndC c k) 0 ()) ∗ (bigSep Finset.univ fun k : Fin 9 => dutyTok ER (rcvC (peer c) k) 0 ())
          ∗ (bigSep Finset.univ fun k : Fin 9 => reached ER (sndC c k) 0))
        ⊢ (bigSep Finset.univ fun k : Fin 9 => iprop(dutyTok ER (sndC c k) 0 () ∗ dutyTok ER (rcvC (peer c) k) 0 () ∗ reached ER (sndC c k) 0) : sProp 𝕄)
        from by rw [bigSep_sep', bigSep_sep'])
    isplitl [Hts]; · iexact Hts
    isplitl [Htr]; · iexact Htr
    iexact Hrs
  isplitl [Hcr Har]
  · unfold rcvK
    iapply (show iprop((bigSep Finset.univ fun k : Fin 9 => cred (tallyAt (rcvC c k) () (amt k))) ∗ (bigSep Finset.univ fun k : Fin 9 => atPos ER (rcvC c k) 0 ∅ 0))
        ⊢ (bigSep Finset.univ fun k : Fin 9 => iprop(cred (tallyAt (rcvC c k) () (amt k)) ∗ atPos ER (rcvC c k) 0 ∅ 0) : sProp 𝕄)
        from by rw [bigSep_sep'])
    isplitl [Hcr]; · iexact Hcr
    iexact Har
  iexact Has

end Cert.Moe

end
-- ==== Proof.Run.lean ====
/- The run of the whole program on the eight devices: the two reshapes, the kernel's region, and what every final
   state holds. -/
module

public import proofs.«01_k».proof.Proof.Start
public import proofs.«01_k».proof.Proof.Gen.KernelIdeal.Frame
public import Idealize.ShloMosaic.Lib.Pipeline.ValueKit

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What each device's kernel reads: its tokens, its assignments as a column and as a row, its experts' weights. -/
def inp : Inp F where
  x c := m ((c : Thread nD τ).loc main_arg0)
  acol c := V m c main_v1
  arow c := V m c main_v2
  w1 c := m ((c : Thread nD τ).loc main_arg2)
  w2 c := m ((c : Thread nD τ).loc main_arg3)

/-- The region's proof data: the arrays as the host operations left them, the result as the exchange computes it, the
    exchange's state as the invariant. -/
def dat0 (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out4 (inp m) c
  Φ t := if t.val = 0 then iprop(ready (inp m) c ∗ (bigSep Finset.univ fun k : Fin 9 => landAny c k) ∗ mine c)
    else iprop(semVal (barC c) 0 ∗ (bigSep Finset.univ fun k : Fin 9 => iprop(srcPay (inp m) c k ∗ semVal (sndC c k) 0))
      ∗ (bigSep Finset.univ fun k : Fin 9 => iprop(rcvPay (inp m) c (peer c) k ∗ semVal (rcvC c k) 0)))
  q _ := fullShare
  owed t := if t.val = 0 then O₀ c else 0

abbrev adm : (p : Fin 1) → (pcfgs (F := F) p).Adm := fun p => (cfgs p).toPCfg_adm
/-- The proof data of the one region. -/
def pdats : (p : Fin 1) → (c : Dev nD) → Dat τ (Elt F) Unit ℕ UU ℕ (Pipeline.pin (pcfgs (F := F)) adm p) c
  | 0 => dat0 m

/-! ## The windows' blocks are the arrays -/

/-- The block of an input is the whole array. -/
theorem blk0 (c : Dev nD) : iblk m c 0 t0_0 = (inp m).x c := by
  have e (j : ((cfg0.win 0).xblock (cfg0.grid.coords t0_0)).Idx) : (win0_0.blk t0_0).view.emb j = j :=
    funext fun a => Fin.ext (Pipeline.Window.rect_emb_val_of_index_zero win0_0 t0_0 a (by revert a; decide +kernel) j)
  refine funext fun j => Eq.trans (b := V m c main_arg0 j) ?_ (congrFun (V_main_arg0 m c) j)
  exact congrArg (V m c main_arg0) (e j)

/-- The block of an input is the whole array. -/
theorem blk1 (c : Dev nD) : iblk m c 1 t0_0 = (inp m).acol c := by
  have e (j : ((cfg0.win 1).xblock (cfg0.grid.coords t0_0)).Idx) : (win0_1.blk t0_0).view.emb j = j :=
    funext fun a => Fin.ext (Pipeline.Window.rect_emb_val_of_index_zero win0_1 t0_0 a (by revert a; decide +kernel) j)
  refine funext fun j => Eq.trans (b := V m c main_v1 j) ?_ rfl
  exact congrArg (V m c main_v1) (e j)

/-- The block of an input is the whole array. -/
theorem blk2 (c : Dev nD) : iblk m c 2 t0_0 = (inp m).arow c := by
  have e (j : ((cfg0.win 2).xblock (cfg0.grid.coords t0_0)).Idx) : (win0_2.blk t0_0).view.emb j = j :=
    funext fun a => Fin.ext (Pipeline.Window.rect_emb_val_of_index_zero win0_2 t0_0 a (by revert a; decide +kernel) j)
  refine funext fun j => Eq.trans (b := V m c main_v2 j) ?_ rfl
  exact congrArg (V m c main_v2) (e j)

/-- The block of an input is the whole array. -/
theorem blk3 (c : Dev nD) : iblk m c 3 t0_0 = (inp m).w1 c := by
  have e (j : ((cfg0.win 3).xblock (cfg0.grid.coords t0_0)).Idx) : (win0_3.blk t0_0).view.emb j = j :=
    funext fun a => Fin.ext (Pipeline.Window.rect_emb_val_of_index_zero win0_3 t0_0 a (by revert a; decide +kernel) j)
  refine funext fun j => Eq.trans (b := V m c main_arg2 j) ?_ (congrFun (V_main_arg2 m c) j)
  exact congrArg (V m c main_arg2) (e j)

/-- The block of an input is the whole array. -/
theorem blk4 (c : Dev nD) : iblk m c 4 t0_0 = (inp m).w2 c := by
  have e (j : ((cfg0.win 4).xblock (cfg0.grid.coords t0_0)).Idx) : (win0_4.blk t0_0).view.emb j = j :=
    funext fun a => Fin.ext (Pipeline.Window.rect_emb_val_of_index_zero win0_4 t0_0 a (by revert a; decide +kernel) j)
  refine funext fun j => Eq.trans (b := V m c main_arg3 j) ?_ (congrFun (V_main_arg3 m c) j)
  exact congrArg (V m c main_arg3) (e j)

/-! ## The body at the region's one point -/

/-- The core's dues as a point's and back. -/
theorem owesAt_intro (c : Dev nD) (t : Fin (cfg0.N + 1)) (O : CellTallies nD τ sig Unit) (h0 : (dat0 m c).owed t = O) (W : Waits sig Unit) :
    (owes (c : Thread nD τ) O W : sProp 𝕄) ⊢ (dat0 m c).owesAt () t := by
  unfold Dat.owesAt Pipeline.owesWithin; rw [h0]
  iintro HO; iexists W; isplitr; · ipureintro; exact fun _ _ => Or.inl trivial
  iexact HO
/-- What is owed at a point of the grid, given its value. -/
theorem owesAt_elim (c : Dev nD) (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin; rw [h0]
  iintro ⟨%W, -, HO⟩; iexists W; iexact HO
/-- Before the body the start of the exchange is owed, -/
theorem owed_first (c : Dev nD) : (dat0 (F := F) m c).owed t0_0.castSucc = O₀ c := by
  show (if (t0_0.castSucc : Fin (cfg0.N + 1)).val = 0 then O₀ c else 0) = O₀ c; exact if_pos rfl
/-- and after it nothing. -/
theorem owed_last (c : Dev nD) : (dat0 (F := F) m c).owed t0_0.succ = 0 := rfl

/-- The body finds an input in its window. -/
theorem before0 (c : Dev nD) (d) : (dat0 m c).before 0 t0_0 d = (inp m).x c := by
  unfold Dat.before; rw [if_pos (fetch0_0 t0_0)]; exact blk0 m c
/-- The body finds an input in its window. -/
theorem before1 (c : Dev nD) (d) : (dat0 m c).before 1 t0_0 d = (inp m).acol c := by
  unfold Dat.before; rw [if_pos (fetch0_1 t0_0)]; exact blk1 m c
/-- The body finds an input in its window. -/
theorem before2 (c : Dev nD) (d) : (dat0 m c).before 2 t0_0 d = (inp m).arow c := by
  unfold Dat.before; rw [if_pos (fetch0_2 t0_0)]; exact blk2 m c
/-- The body finds an input in its window. -/
theorem before3 (c : Dev nD) (d) : (dat0 m c).before 3 t0_0 d = (inp m).w1 c := by
  unfold Dat.before; rw [if_pos (fetch0_3 t0_0)]; exact blk3 m c
/-- The body finds an input in its window. -/
theorem before4 (c : Dev nD) (d) : (dat0 m c).before 4 t0_0 d = (inp m).w2 c := by
  unfold Dat.before; rw [if_pos (fetch0_4 t0_0)]; exact blk4 m c

/-- The body leaves an input as it found it. -/
theorem after0 (c : Dev nD) : (dat0 m c).after 0 t0_0 = (inp m).x c := blk0 m c
/-- The body leaves an input as it found it. -/
theorem after1 (c : Dev nD) : (dat0 m c).after 1 t0_0 = (inp m).acol c := blk1 m c
/-- The body leaves an input as it found it. -/
theorem after2 (c : Dev nD) : (dat0 m c).after 2 t0_0 = (inp m).arow c := blk2 m c
/-- The body leaves an input as it found it. -/
theorem after3 (c : Dev nD) : (dat0 m c).after 3 t0_0 = (inp m).w1 c := blk3 m c
/-- The body leaves an input as it found it. -/
theorem after4 (c : Dev nD) : (dat0 m c).after 4 t0_0 = (inp m).w2 c := blk4 m c
/-- The body leaves the output in its window. -/
theorem after5 (c : Dev nD) : (dat0 m c).after 5 t0_0 = out4 (inp m) c := rfl

/-- The invariant before the body, -/
theorem phi_first (c : Dev nD) : ((dat0 m c).Φ t0_0.castSucc : sProp 𝕄)
    = iprop(ready (inp m) c ∗ (bigSep Finset.univ fun k : Fin 9 => landAny c k) ∗ mine c) := by
  unfold dat0; dsimp only; rw [if_pos (by rfl)]
/-- and after it. -/
theorem phi_last (c : Dev nD) : ((dat0 m c).Φ t0_0.succ : sProp 𝕄)
    = iprop(semVal (barC c) 0 ∗ (bigSep Finset.univ fun k : Fin 9 => iprop(srcPay (inp m) c k ∗ semVal (sndC c k) 0))
      ∗ (bigSep Finset.univ fun k : Fin 9 => iprop(rcvPay (inp m) c (peer c) k ∗ semVal (rcvC c k) 0))) := rfl

/-- One run of the body keeps the region's data. -/
theorem body0 (c : Dev nD) : BodyObligation (dat0 (F := F) m c) defs₀ 𝒱₀ () Set.univ := fun t => by
  obtain rfl := fin_N0 t
  rw [bigSep_W0, bigSep_W0, phi_first, phi_last]
  simp only [before0, before1, before2, before3, before4, after0, after1, after2, after3, after4, after5]
  unfold ready
  iintro ⟨⟨⟨%κ, HC, Hb, Hcb, Hrr, Htk, Hrk, Has⟩, Hl, Hm⟩, HO, ⟨%d0, H0⟩, ⟨%d1, H1⟩, ⟨%d2, H2⟩, ⟨%d3, H3⟩, ⟨%d4, H4⟩, ⟨%d5, H5⟩⟩
  ihave HO' := (owesAt_elim m c _ (O₀ c) (owed_first m c)) $$ HO
  iapply (body_run (inp m) κ c _) $$ [HC Hb Hcb Hrr Htk Hrk Has Hl Hm HO' H0 H1 H2 H3 H4 H5]
  · unfold bodyPre wins
    isplitl [HC]; · iexact HC
    isplitl [HO']; · iexact HO'
    isplitl [Hb]; · iexact Hb
    isplitl [Hcb]; · iexact Hcb
    isplitl [Hl Hrr]
    · iapply (show iprop((bigSep Finset.univ fun k : Fin 9 => landAny c k) ∗ (bigSep Finset.univ fun k : Fin 9 => reached ER (rcvC c k) 0))
        ⊢ (bigSep Finset.univ fun k : Fin 9 => iprop(landAny c k ∗ reached ER (rcvC c k) 0) : sProp 𝕄) from by rw [bigSep_sep'])
      isplitl [Hl]; · iexact Hl
      iexact Hrr
    isplitl [Htk]; · iexact Htk
    isplitl [Hrk]; · iexact Hrk
    isplitl [Has]; · iexact Has
    isplitl [H0 H1 H2 H3 H4]
    · isplitl [H0]; · iexact H0
      isplitl [H1]; · iexact H1
      isplitl [H2]; · iexact H2
      isplitl [H3]; · iexact H3
      iexact H4
    isplitl [H5]; · iapply (own_any c mO _); iexact H5
    iexact Hm
  unfold bodyPost wins owesR
  iintro ⟨⟨H0, H1, H2, H3, H4⟩, H5, Hz, Hs, Hr, ⟨%W, HO⟩⟩
  isplitl [Hz Hs Hr]
  · isplitl [Hz]; · iexact Hz
    isplitl [Hs]; · iexact Hs
    iexact Hr
  isplitl [HO]; · iapply (owesAt_intro m c _ _ (owed_last m c)); iexact HO
  isplitl [H0]; · iexact H0
  isplitl [H1]; · iexact H1
  isplitl [H2]; · iexact H2
  isplitl [H3]; · iexact H3
  isplitl [H4]; · iexact H4
  iexact H5

/-! ## The two segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides past the reshapes: the exchange's share, its credit, the core's dues. -/
def riding (c : Dev nD) : sProp 𝕄 := iprop((dealt (inp m) c ∗ cred (Tot c)) ∗ owes (c : Thread nD τ) (O₀ c) ∅)

/-- The launch contents, buffer by buffer. -/
abbrev V₀ (c : Dev nD) : Valuation τ sig (Elt F) := fun b => m (c, b)

/-- The reshapes. -/
def seg0 : ℍ := Pipeline.HostSeg.ofOps _ _ _ _ _ (Pipeline.ucRefs τ sig) (hostOps0 (F := F))
  (fun op h => Pipeline.sub_ucRefs op (List.forall_iff_forall_mem.mp hostOps0_sub op h))
  (fun op h => List.forall_iff_forall_mem.mp hostOps0_fresh op h) (V₀ m) (riding m)

/-- What the region leaves of a device: its arrays, its assignments, its barrier's counter at zero. -/
def left (c : Dev nD) : sProp 𝕄 :=
  iprop((pdats m 0 c).arrays ((pdats m 0 c).arrAt · (Pipeline.pin (pcfgs (F := F)) adm 0).N)
    ∗ (((c : Thread nD τ).loc main_arg1) ↦{fullShare} V m c main_arg1) ∗ semVal (barC c) 0)

/-- A device may wait for its staging while it owes the exchange. -/
theorem mayWait_stage (c : Dev nD) (q : DmaSem sig) (hq : q.val < 15) :
    (levAts L lv : sProp 𝕄) ⊢ MayWait (c : Thread nD τ) (.dma q) () (O₀ c) :=
  MayOwe.of_cut (L := L) (lev := lv) 0 (fun p hp => by rw [Finset.mem_singleton.mp hp, L_tc]; exact Finset.mem_singleton_self _)
    (fun g u hg => by
      rcases Nat.eq_zero_or_pos (Owe (peer c) 9 g u) with h0 | h0
      · have hg' : 0 < Owe (peer c) 9 g u + tallyAt (barC (peer c)) () 1 g u := hg
        rw [h0, zero_add, tallyAt_apply] at hg'
        by_cases h2 : g = barC (peer c) ∧ u = ()
        · rw [h2.1, L_tc]; cases u; exact Finset.mem_singleton_self _
        · rw [if_neg h2] at hg'; exact absurd hg' (Nat.lt_irrefl 0)
      · obtain ⟨j, -, e⟩ := Owe_pos (peer c) 9 le_rfl g u h0
        rw [e, L_tc]; cases u; exact Finset.mem_singleton_self _)
    (fun p hp => by
      rw [Finset.mem_singleton.mp hp]; show (if 20 ≤ q.val then 3 else if 15 ≤ q.val then 2 else 0) ≤ 0
      rw [if_neg (by omega), if_neg (by omega)])
    (fun g u hg => by
      rcases Nat.eq_zero_or_pos (Owe (peer c) 9 g u) with h0 | h0
      · have hg' : 0 < Owe (peer c) 9 g u + tallyAt (barC (peer c)) () 1 g u := hg
        rw [h0, zero_add, tallyAt_apply] at hg'
        by_cases h2 : g = barC (peer c) ∧ u = ()
        · rw [h2.1]; exact Nat.zero_lt_one
        · rw [if_neg h2] at hg'; exact absurd hg' (Nat.lt_irrefl 0)
      · obtain ⟨j, -, e⟩ := Owe_pos (peer c) 9 le_rfl g u h0
        rw [e, lv_rcv]; split <;> decide)

/-- At each point it may. -/
theorem mayWait_owed (c : Dev nD) (q : DmaSem sig) (hq : q.val < 15) (t : Fin (cfg0.N + 1)) :
    (levAts L lv : sProp 𝕄) ⊢ MayWait (c : Thread nD τ) (.dma q) () ((dat0 m c).owed t) := by
  unfold dat0; dsimp only
  split
  · exact mayWait_stage c q hq
  · rw [MayWait_zero]; iintro -; iempintro

/-- The transfer counters at zero are the kernel's own semaphores back. -/
theorem sems_back (c : Dev nD) :
    (iprop((bigSep Finset.univ fun k : Fin 9 => semVal (sndC c k) 0) ∗ (bigSep Finset.univ fun k : Fin 9 => semVal (rcvC c k) 0)) : sProp 𝕄)
      ⊢ Pipeline.ownSems0 osem c := Entails.of_eq (sep18 c fun g => (semVal g 0 : sProp 𝕄)).symm

/-- The transfer semaphores are the kernel's own, none of them a staging one. -/
theorem own0 : Pipeline.OwnSemFacts spec0 osem := by decide
/-- The staging semaphores come before the transfers'. -/
theorem stage_lt : ∀ (w : Fin 6) (s : Fin (spec0 w).nbuf), ((spec0 w).sem s).val < 15 := by decide

/-- The region. -/
def reg0 : ℝ𝕊 0 where
  win := launch0.win.to₀
  block_pos := launch0.block_pos
  stage_whole := launch0.stage_whole
  K := Fin 18
  osem := osem
  ho := own0
  hbody c := (body0 m c).loose
  hwaits c := Pipeline.cellsWaits_intro _ (pdats m) () 0 c fun w s t => mayWait_owed m c _ (stage_lt w s) t
  pre c := iprop(StableHlo.held (c : Thread nD τ) (Pipeline.ucRefs τ sig) (StableHlo.after hostOps0 (V₀ m c)) ∗ riding m c)
  post c := iprop(left m c ∗ ∃ W, owes (c : Thread nD τ) (0 : CellTallies nD τ sig Unit) W)
  X c := ready (inp m) c
  Y c := semVal (barC c) 0
  Z c := ((c : Thread nD τ).loc main_arg1) ↦{fullShare} V m c main_arg1
  hentry c := by
    have hsplit := Pipeline.arrays_of_unscopedBufs (pcfgs (F := F)) adm (pdats m) launch0.win launch0.arr_whole c
      ((pdats m 0 c).share_full fun _ => rfl) (V m c) fun _ => rfl
    rw [show unscopedBufs c (V m c) = StableHlo.held (c : Thread nD τ) (Pipeline.ucRefs τ sig) (StableHlo.after hostOps0 (V₀ m c))
      from Pipeline.unscopedBufs_held c (StableHlo.after hostOps0 (V₀ m c)), unscopedRest0_eq] at hsplit
    unfold riding
    iintro ⟨⟨Hh, Hd, HO⟩, Hos, Hlev⟩
    ihave H := hsplit $$ Hh
    icases H with ⟨Ha, Hr⟩
    imod (wake (inp m) c) $$ [Hd Hos Hlev] with HX
    · isplitl [Hd]; · iexact Hd
      isplitl [Hos]; · iexact Hos
      iexact Hlev
    imodintro
    isplitl [Ha]; · iexact Ha
    isplitr; · unfold Pipeline.prefHeld; rw [show (Finset.univ : Finset (Fin 0)) = ∅ from rfl, BI.bigSep_empty]; iempintro
    isplitl [HO]; · iapply (owesAt_intro m c t0_0.castSucc (O₀ c) (owed_first m c)); iexact HO
    isplitl [HX]; · iexact HX
    iexact Hr
  hin c := by
    show _ ⊢ (dat0 m c).Φ t0_0.castSucc
    rw [phi_first]
    iintro ⟨HX, -, Hs⟩
    ihave Hs := (scratch_open c) $$ Hs
    icases Hs with ⟨Hl, Hm⟩
    isplitl [HX]; · iexact HX
    isplitl [Hl]; · iexact Hl
    iexact Hm
  hout c := by
    show (dat0 m c).Φ t0_0.succ ⊢ _
    rw [phi_last, bigSep_sep', bigSep_sep']
    iintro ⟨Hz, ⟨Hs, Hs0⟩, Hr, Hr0⟩
    isplitl [Hz]; · iexact Hz
    isplitl [Hs0 Hr0]
    · iapply (sems_back (F := F) c); isplitl [Hs0]; · iexact Hs0
      iexact Hr0
    iapply (scratch_close (inp m) c (peer c))
    isplitl [Hs]; · iexact Hs
    iexact Hr
  hexit c := by
    unfold left
    iintro ⟨Ha, HO, Hz, Hr⟩
    imodintro
    isplitr [HO]
    · isplitl [Ha]; · iexact Ha
      isplitl [Hr]; · iexact Hr
      iexact Hz
    iapply (owesAt_elim m c (Fin.last _) 0 (owed_last m c)); iexact HO

/-- The program's segments. -/
def segs : List (Pipeline.Seg (pcfgs (F := F)) adm (pdats m) () defs₀ 𝒱₀ L lv) := [.host (seg0 m), .region (reg0 m)]

/-- The program's main is the run of its segments. -/
theorem main_eq (c : Dev nD) : main (F := F) c = Pipeline.Seg.run (segs m) := main_segs adm (pdats m) () 𝒱₀ L lv (seg0 m) (reg0 m) rfl c

/-! ## The launch -/

/-- The launch element: the staging cells' part and the exchange's. -/
def u₀ : UU :=
  (initOf (Pipeline.cells (Pipeline.pin (pcfgs (F := F)) adm) cellOf_inj) (Pipeline.launchToks (Pipeline.pin (pcfgs (F := F)) adm) cellOf_inj), uX)

/-- The exchange's part travels whole, with device 0. -/
def G (c : Dev nD) : sProp 𝕄 := if c = 0 then BI.own (ER uX) else iprop(emp)

omit [FloatOps F] in
/-- The ghost state of the exchange, gathered. -/
theorem bigSep_G : bigSep Finset.univ G = (BI.own (ER uX) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] in
/-- The only counter that lives outside the region is the barrier. -/
theorem unscopedSems0_eq (c : Dev nD) : (unscopedSems0 c : sProp 𝕄) = semVal (barC c) 0 := by
  unfold unscopedSems0
  rw [bigSep_eq_bigSepL_of_eq [SemLoc.reg barS] (by decide) (by decide)]
  rfl

/-- The first thread state. -/
abbrev T₀ (c : Dev nD) : sProp 𝕄 :=
  iprop(StableHlo.held (c : Thread nD τ) (Pipeline.ucRefs τ sig) (V₀ m c) ∗ riding m c)

/-- The launch deals every device its state. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ iprop(semVal (barC c) 0 ∗ G c ∗ (StableHlo.held (c : Thread nD τ) (Pipeline.ucRefs τ sig) (V₀ m c) ∗ cred (Tot c) ∗ owes (c : Thread nD τ) (O₀ c) ∅)) := by
    rw [unscopedSems0_eq, launchCred_eq, show unscopedBufs c (fun b => m ((c : Thread nD τ).loc b))
      = StableHlo.held (c : Thread nD τ) (Pipeline.ucRefs τ sig) (V₀ m c) from Pipeline.unscopedBufs_held c (V₀ m c)]
    iintro ⟨Hub, Hus, HO, Hcr, -, HG⟩
    isplitl [Hus]; · iexact Hus
    isplitl [HG]; · iexact HG
    isplitl [Hub]; · iexact Hub
    isplitl [Hcr]; · iexact Hcr
    iexact HO
  have h2 (c : Dev nD) : iprop(dealt (inp m) c ∗ (StableHlo.held (c : Thread nD τ) (Pipeline.ucRefs τ sig) (V₀ m c) ∗ cred (Tot c) ∗ owes (c : Thread nD τ) (O₀ c) ∅))
      ⊢ T₀ m c := by
    unfold T₀ riding
    iintro ⟨Hd, Hh, Hc, HO⟩
    isplitl [Hh]; · iexact Hh
    isplitr [HO]
    · isplitl [Hd]; · iexact Hd
      iexact Hc
    iexact HO
  iintro ⟨H, -⟩
  ihave H' := (show _ ⊢ iprop((bigSep Finset.univ fun c : Dev nD => semVal (barC c) 0) ∗ bigSep Finset.univ G
        ∗ bigSep Finset.univ fun c : Dev nD => iprop(StableHlo.held (c : Thread nD τ) (Pipeline.ucRefs τ sig) (V₀ m c) ∗ cred (Tot c) ∗ owes (c : Thread nD τ) (O₀ c) ∅))
      from by rw [← bigSep_sep', ← bigSep_sep']; exact bigSep_mono fun c _ => h1 c) $$ H
  icases H' with ⟨Hz, HG, Hrest⟩
  ihave Hu := (Entails.of_eq (bigSep_G (F := F))) $$ HG
  imod (deal (inp m)) $$ [Hz Hu] with Hr
  · isplitl [Hz] <;> iassumption
  imodintro
  iapply (show iprop((bigSep Finset.univ fun c : Dev nD => dealt (inp m) c)
        ∗ bigSep Finset.univ fun c : Dev nD => iprop(StableHlo.held (c : Thread nD τ) (Pipeline.ucRefs τ sig) (V₀ m c) ∗ cred (Tot c) ∗ owes (c : Thread nD τ) (O₀ c) ∅))
      ⊢ bigSep Finset.univ (T₀ m) from by rw [← bigSep_sep']; exact bigSep_mono fun c _ => h2 c)
  isplitl [Hr] <;> iassumption

/-! ## The run -/

/-- The result array ends at what the exchange computes. -/
theorem arrAt_out (c : Dev nD) : (dat0 m c).arrAt 5 cfg0.N = out4 (inp m) c := by
  refine (dat0 m c).arrAt_eq_of_after_last 5 t0_0 (by decide +kernel) _ fun j => ?_
  rfl

/-- The region's arrays, one by one, at the region's exit. -/
theorem arrays_last (c : Dev nD) :
    ((pdats m 0 c).arrays ((pdats m 0 c).arrAt · (Pipeline.pin (pcfgs (F := F)) adm 0).N) : sProp 𝕄)
      = iprop((((c : Thread nD τ).loc main_arg0) ↦{fullShare} V m c main_arg0) ∗ (((c : Thread nD τ).loc main_v1) ↦{fullShare} V m c main_v1)
        ∗ (((c : Thread nD τ).loc main_v2) ↦{fullShare} V m c main_v2) ∗ (((c : Thread nD τ).loc main_arg2) ↦{fullShare} V m c main_arg2)
        ∗ (((c : Thread nD τ).loc main_arg3) ↦{fullShare} V m c main_arg3) ∗ (((c : Thread nD τ).loc main_v3) ↦{fullShare} out4 (inp m) c)) := by
  rw [Pipeline.arrays_eq (Pipeline.pin (pcfgs (F := F)) adm) (pdats m) 0 c launch0.arr_whole ((pdats m 0 c).share_full fun _ => rfl) _, bigSep_W0]
  have e0 := (dat0 m c).arrAt_in 0 rfl cfg0.N
  have e1 := (dat0 m c).arrAt_in 1 rfl cfg0.N
  have e2 := (dat0 m c).arrAt_in 2 rfl cfg0.N
  have e3 := (dat0 m c).arrAt_in 3 rfl cfg0.N
  have e4 := (dat0 m c).arrAt_in 4 rfl cfg0.N
  have e5 := arrAt_out m c
  exact congrArg₂ _ (by rw [← show _ = V m c main_arg0 from e0]; rfl) (congrArg₂ _ (by rw [← show _ = V m c main_v1 from e1]; rfl)
    (congrArg₂ _ (by rw [← show _ = V m c main_v2 from e2]; rfl) (congrArg₂ _ (by rw [← show _ = V m c main_arg2 from e3]; rfl)
      (congrArg₂ _ (by rw [← show _ = V m c main_arg3 from e4]; rfl) (by rw [← e5]; rfl)))))

set_option backward.isDefEq.respectTransparency.types false in
/-- At any float values, from any memory, every execution ends with each device's arguments as they were, its result
    what the exchange computes, and every counter at zero. -/
theorem run_main : θ_run defs (onTc (τ := τ) (main (F := F))) (s₀ m ρ)
    (fun r => (∀ c : Dev nD, r.2.mem ((c : Thread nD τ).loc main_v3) = out4 (inp m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := left m)
    (hch := ⟨fun c => .rfl, fun c => .rfl, fun c => .rfl⟩)
    (hinit := init m ρ)
    (QY := fun c s => (s.mem ((c : Thread nD τ).loc main_v3) = out4 (inp m) c
        ∧ s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3)) ∧ s.sem (barC c) = 0)
    (hfin := fun c s' => by
      unfold left
      rw [arrays_last]
      iintro ⟨⟨⟨H0, -, -, H2, H3, Ho⟩, H1, Hz⟩, HSI⟩
      icombine HSI H0 gives %h0
      icombine HSI H1 gives %h1
      icombine HSI H2 gives %h2
      icombine HSI H3 gives %h3
      icombine HSI Ho gives %ho
      icombine HSI Hz gives %hz
      imodintro
      isplitr
      · ipureintro
        exact ⟨⟨Buf.eq_of_forall_mem_univ ho, (Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c)⟩, by simpa using hz⟩
      iexact HSI)
    (hQ := fun s h hs => ⟨fun c => (h c).1, sem_eq_zero hs fun c sm hsm => by
      have hl : ∀ sm : SemLoc sig, sm.isScoped .tc = false → sm = .reg barS := by decide
      rw [hl sm hsm]; exact (h c).2⟩)

end Cert.Moe

end
-- ==== Proof.Ranks.lean ====
/-
  The mathematics of the routing, on plain functions.

  A token is marked or not; a marked token's rank is the number of marked tokens before it. The table whose
  entry `(i, t)` is one exactly when token `t` is marked with rank `i` picks one token per row, and its transpose puts a
  row back at its token. Both facts hold over the extended reals, where zero times anything is zero. Beside them, the
  two-layer network one expert is, as sums.
-/
module

public import Mathlib.Data.EReal.Operations
public import Mathlib.Algebra.BigOperators.Fin
public import Mathlib.Data.Fintype.BigOperators

@[expose] public section

namespace Cert.Moe

open scoped BigOperators

/-- The number of marked tokens before token `t`. -/
def rank {n : ℕ} (p : Fin n → Prop) [DecidablePred p] (t : Fin n) : ℕ :=
  (Finset.univ.filter fun s : Fin n => s < t ∧ p s).card

/-- Of two marked tokens the earlier has the smaller rank. -/
theorem rank_lt_rank {n : ℕ} (p : Fin n → Prop) [DecidablePred p] {s t : Fin n} (hs : p s) (h : s < t) :
    rank p s < rank p t := by
  refine Finset.card_lt_card (Finset.ssubset_iff_of_subset ?_ |>.mpr ⟨s, ?_, ?_⟩)
  · intro u hu
    simp only [Finset.mem_filter, Finset.mem_univ, true_and] at hu ⊢
    exact ⟨hu.1.trans h, hu.2⟩
  · simpa using ⟨h, hs⟩
  · simp

/-- Marked tokens of one rank are one token. -/
theorem rank_inj {n : ℕ} (p : Fin n → Prop) [DecidablePred p] {s t : Fin n} (hs : p s) (ht : p t)
    (h : rank p s = rank p t) : s = t := by
  rcases lt_trichotomy s t with hl | he | hg
  · exact absurd h (rank_lt_rank p hs hl).ne
  · exact he
  · exact absurd h (rank_lt_rank p ht hg).ne'

/-- A marked token's rank is below the number of marked tokens. -/
theorem rank_lt_card {n : ℕ} (p : Fin n → Prop) [DecidablePred p] {t : Fin n} (ht : p t) :
    rank p t < (Finset.univ.filter p).card := by
  refine Finset.card_lt_card (Finset.ssubset_iff_of_subset ?_ |>.mpr ⟨t, ?_, ?_⟩)
  · intro u hu
    simp only [Finset.mem_filter, Finset.mem_univ, true_and] at hu ⊢
    exact hu.2
  · simpa using ht
  · simp

/-- The table's entry: one when token `t` is marked and has rank `i`. -/
noncomputable def pick {n : ℕ} (p : Fin n → Prop) [DecidablePred p] (i : ℕ) (t : Fin n) : EReal :=
  if p t ∧ rank p t = i then 1 else 0

/-- The table's row of a marked token's rank, against a column, is the column at the token. -/
theorem sum_pick {n : ℕ} (p : Fin n → Prop) [DecidablePred p] {t : Fin n} (ht : p t) (f : Fin n → EReal) :
    ∑ s, pick p (rank p t) s * f s = f t := by
  rw [Finset.sum_eq_single t]
  · rw [pick, if_pos ⟨ht, rfl⟩, one_mul]
  · intro s _ hs
    rw [pick, if_neg (fun h => hs (rank_inj p h.1 ht h.2)), zero_mul]
  · exact fun h => absurd (Finset.mem_univ t) h

/-- The table's column of a token, against the rows, is the row at the token's rank, and nothing for a token that is not
marked. -/
theorem sum_unpick {n m : ℕ} (p : Fin n → Prop) [DecidablePred p] (t : Fin n) (hb : p t → rank p t < m) (g : ℕ → EReal) :
    ∑ i : Fin m, pick p i.val t * g i.val = if p t then g (rank p t) else 0 := by
  by_cases ht : p t
  · rw [if_pos ht, Finset.sum_eq_single (⟨rank p t, hb ht⟩ : Fin m)]
    · rw [pick, if_pos ⟨ht, rfl⟩, one_mul]
    · intro i _ hi
      rw [pick, if_neg (fun h => hi (Fin.ext h.2.symm)), zero_mul]
    · exact fun h => absurd (Finset.mem_univ _) h
  · rw [if_neg ht]
    refine Finset.sum_eq_zero fun i _ => ?_
    rw [pick, if_neg (fun h => ht h.1), zero_mul]

/-- A sum over 320 rows is the sum of its four runs of 80 rows. -/
theorem sum_four (g : ℕ → EReal) :
    ∑ i : Fin 320, g i.val
      = ∑ i : Fin 80, g i.val + ∑ i : Fin 80, g (80 + i.val) + ∑ i : Fin 80, g (160 + i.val)
        + ∑ i : Fin 80, g (240 + i.val) := by
  rw [Fin.sum_univ_eq_sum_range (n := 320), Fin.sum_univ_eq_sum_range (n := 80), Fin.sum_univ_eq_sum_range (fun i => g (80 + i)) 80,
    Fin.sum_univ_eq_sum_range (fun i => g (160 + i)) 80, Fin.sum_univ_eq_sum_range (fun i => g (240 + i)) 80,
    show 320 = 80 + 80 + 80 + 80 from rfl, Finset.sum_range_add, Finset.sum_range_add, Finset.sum_range_add]

/-- A count as a sum of ones and zeros over the extended reals. -/
theorem sum_ite_one {n : ℕ} (p : Fin n → Prop) [DecidablePred p] :
    ∑ s, (if p s then (1 : EReal) else 0) = ((((Finset.univ.filter p).card : ℕ) : ℝ) : EReal) := by
  rw [Finset.sum_ite, Finset.sum_const_zero, add_zero, Finset.sum_const, nsmul_one]
  simp

/-- One expert on one token: a product, its negative entries dropped, a second product; column `j`. -/
noncomputable def ffn (x : Fin 512 → EReal) (w1 : Fin 512 → Fin 1024 → EReal) (w2 : Fin 1024 → Fin 512 → EReal) (j : Fin 512) :
    EReal :=
  ∑ h, max (∑ k, x k * w1 k h) 0 * w2 h j

/-- An expert on the zero token gives zero. -/
theorem ffn_zero (w1 : Fin 512 → Fin 1024 → EReal) (w2 : Fin 1024 → Fin 512 → EReal) (j : Fin 512) :
    ffn (fun _ => 0) w1 w2 j = 0 := by
  simp [ffn]

/-- Dropping the token before an expert is dropping the expert's result. -/
theorem ffn_ite (q : Prop) [Decidable q] (x : Fin 512 → EReal) (w1 : Fin 512 → Fin 1024 → EReal)
    (w2 : Fin 1024 → Fin 512 → EReal) (j : Fin 512) :
    ffn (fun k => if q then x k else 0) w1 w2 j = if q then ffn x w1 w2 j else 0 := by
  by_cases h : q
  · simp [h]
  · simp [h, ffn_zero]

end Cert.Moe
-- ==== Proof.Reads.lean ====
/-
  Single operations of the kernel and of the reference read at one entry, over the extended reals: a chunk of a stack, a
  column spread over a row, a comparison of two whole numbers, one expert's two products, and the product that puts
  returned rows back at their tokens.
-/
module

public import proofs.«01_k».proof.Proof.Ranks
public import Idealize.ShloMosaic.Lib.MatmulPlain
public import Idealize.ShloMosaic.Lib.IdealHost
public import Idealize.ShloMosaic.Lib.ValueLayout
public import Idealize.ShloMosaic.Lib.Pipeline.Value

@[expose] public section

noncomputable section

namespace Cert.Moe

open Idealize.ShloMosaic Idealize.ShloMosaic.ValueIdx
open scoped BigOperators

/-- Member `e` of a stack of matrices, cut out and its leading axis dropped, is the stack at `e`. -/
theorem member_read {α : Type} {n a b : ℕ} (o : ℕ) (X : (⟨3, ![n, a, b]⟩ : Shape).Idx → α)
    (h : (⟨3, ![n, a, b]⟩ : Shape).Slices ![o, 0, 0] ⟨3, ![1, a, b]⟩)
    (h' : (⟨3, ![1, a, b]⟩ : Shape).ShapeCasts ⟨2, ![a, b]⟩) (e : Fin n) (he : e.val = o) (i : Fin a) (j : Fin b) :
    shapeCast ⟨2, ![a, b]⟩ (extractStridedSlice ⟨3, ![1, a, b]⟩ ![o, 0, 0] X h) h' (ix2 i j) = X (ix3 e i j) := by
  rw [shapeCast_1ab_ab_apply]
  refine extractStridedSlice_apply _ _ _ _ _ fun ax => ?_
  match ax with
  | ⟨0, _⟩ => exact he
  | ⟨1, _⟩ => exact (Nat.zero_add _).symm
  | ⟨2, _⟩ => exact (Nat.zero_add _).symm

/-- A column spread over the columns of a matrix reads the column. -/
theorem column_read {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i 0) := by
  refine broadcastTo_apply v h (ix2 i j) (ix2 i 0) fun ax => ?_
  match ax with
  | ⟨0, _⟩ =>
    show i.val = if a = 1 then 0 else i.val
    split
    · have := i.isLt; omega
    · rfl
  | ⟨1, _⟩ => rfl

/-- Two extended reals compared for equality, as a bit. -/
theorem cmp_oeq (x y : EReal) : Ideal.cmp .oeq x y = if x = y then 1#1 else 0#1 := by
  by_cases h : x = y <;> simp [Ideal.cmp, h]

/-- A choice by a bit that records a proposition is the choice by the proposition. -/
theorem select_ite {α : Type} (q : Prop) [Decidable q] (a b : α) :
    Scalar.select (if q then 1#1 else 0#1) a b = if q then a else b := by
  by_cases h : q <;> simp [h, select_one, select_zero]

/-- Two words compared for equality, as a bit. -/
theorem cmpi_eq_ite (x y : BitVec 32) : IntOp.cmpi .eq x y = if x = y then 1#1 else 0#1 := by
  by_cases h : x = y
  · simp [IntOp.cmpi, h]
  · rw [if_neg h]
    simp [IntOp.cmpi, beq_eq_false_iff_ne.mpr h]

/-- Two words are equal when the whole numbers they stand for are equal extended reals. -/
theorem toInt_coe_eq (x y : BitVec 32) : ((x.toInt : ℝ) : EReal) = ((y.toInt : ℝ) : EReal) ↔ x = y := by
  rw [EReal.coe_eq_coe_iff, Int.cast_inj, BitVec.toInt_inj]

/-- The half, as the kernel writes it, is between zero and one. -/
theorem half_pos : ¬ Ideal.ofBits .f32 0x3F000000#32 < 0 ∧ Ideal.ofBits .f32 0x3F000000#32 < 1 := by
  have h : Ideal.ofBits .f32 0x3F000000#32 = (((1 : ℝ) / 2 : ℝ) : EReal) := by
    simp [Ideal.ofBits, Ideal.ieee, -EReal.coe_mul]; norm_num
  rw [h]
  constructor
  · rw [not_lt]; exact_mod_cast (by norm_num : (0 : ℝ) ≤ 1 / 2)
  · exact_mod_cast (by norm_num : (1 : ℝ) / 2 < 1)

/-- A one or a zero is above the half exactly when it is the one. -/
theorem cmp_half (q : Prop) [Decidable q] :
    Ideal.cmp .ogt (if q then (1 : EReal) else 0) (Ideal.ofBits .f32 0x3F000000#32) = if q then 1#1 else 0#1 := by
  have := half_pos
  by_cases h : q <;> simp [Ideal.cmp, h, this]

/-- The conjunction of two bits that record propositions records their conjunction. -/
theorem andi_ite (p q : Prop) [Decidable p] [Decidable q] :
    IntOp.andi (if p then 1#1 else 0#1) (if q then 1#1 else 0#1) = if p ∧ q then 1#1 else 0#1 := by
  by_cases hp : p <;> by_cases hq : q <;> simp [IntOp.andi, hp, hq]

/-- A product onto a zero accumulator, at one entry. -/
theorem product_read {M K N : ℕ} {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant _ .f32 0x00000000#32) (ix2 r c)
      = ∑ k : Fin K, lhs (ix2 r k) * rhs (ix2 k c) := by
  rw [Ideal.matmul_plain_apply, constant_apply, Ideal.ofBits_zero_f32, zero_add]

/-- One expert on the rows a mask keeps, at one entry. -/
theorem expert_read {M : ℕ} (b : IVec ⟨2, ![M, 512]⟩ 1) (x : FVec Ideal ⟨2, ![M, 512]⟩ .bf16)
    (w1 : FVec Ideal ⟨2, ![512, 1024]⟩ .bf16) (w2 : FVec Ideal ⟨2, ![1024, 512]⟩ .bf16) (h : FTy.bf16.bits < FTy.f32.bits)
    (q : Prop) [Decidable q] (r : Fin M) (j : Fin 512) (hb : ∀ k, b (ix2 r k) = if q then 1#1 else 0#1) :
    FloatOps.matmul (DotDims.plain M 1024 512) none
        (truncf .bf16 (maximumf (FloatOps.matmul (DotDims.plain M 512 1024) none
            (select b x (broadcast ⟨2, ![M, 512]⟩ (Scalar.ofBits (F := Ideal) .bf16 0x0000#16))) w1
            (constant ⟨2, ![M, 1024]⟩ .f32 0x00000000#32))
          (broadcast ⟨2, ![M, 1024]⟩ (Scalar.ofBits (F := Ideal) .f32 0x00000000#32))) h) w2
        (constant ⟨2, ![M, 512]⟩ .f32 0x00000000#32) (ix2 r j)
      = if q then ffn (fun k => x (ix2 r k)) (fun k h => w1 (ix2 k h)) (fun h j => w2 (ix2 h j)) j else 0 := by
  rw [product_read, ← ffn_ite]
  refine Finset.sum_congr rfl fun u _ => ?_
  rw [truncf_apply, maximumf_apply, product_read, broadcast_apply]
  have h0 : (Scalar.ofBits (F := Ideal) .f32 0x00000000#32) = (0 : EReal) := Ideal.ofBits_zero_f32
  have h1 : (Scalar.ofBits (F := Ideal) .bf16 0x0000#16) = (0 : EReal) := Ideal.ofBits_zero_bf16
  rw [h0, h1]
  congr 2
  refine Finset.sum_congr rfl fun k _ => ?_
  rw [select_apply, hb, select_ite, broadcast_apply]

/-- The dimension numbers of the product that contracts the rows of both operands. -/
abbrev rowsDims (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- The product that contracts the rows of both operands, onto a zero accumulator, at one entry. -/
theorem back_read {K M N : ℕ} {φ₁ φ₂ : FTy} (wf : DotDims.WF ⟨2, ![K, M]⟩ ⟨2, ![K, N]⟩ ⟨2, ![M, N]⟩ [0] [0] [1] [1] [] [])
    (prec : Option ContractPrecision) (lhs : FVec Ideal ⟨2, ![K, M]⟩ φ₁)
    (rhs : FVec Ideal ⟨2, ![K, N]⟩ φ₂) (r : Fin M) (c : Fin N) :
    FloatOps.matmul (rowsDims K M N wf) prec lhs rhs (constant _ .f32 0x00000000#32) (ix2 r c)
      = ∑ k : Fin K, lhs (ix2 k r) * rhs (ix2 k c) := by
  rw [Ideal.matmul_constant_zero_apply, ← Equiv.sum_comp (contrEquiv1 (rowsDims K M N wf) K rfl rfl).symm]
  refine Finset.sum_congr rfl fun k _ => ?_
  have hk := contrEquiv1_symm_val (rowsDims K M N wf) K rfl rfl k
  have el : (rowsDims K M N wf).lhsIdx (ix2 r c) ((contrEquiv1 (rowsDims K M N wf) K rfl rfl).symm k) = ix2 k r := by
    funext a; apply Fin.ext
    match a with
    | ⟨0, _⟩ => exact hk
    | ⟨1, _⟩ => rfl
  have er : (rowsDims K M N wf).rhsIdx (ix2 r c) ((contrEquiv1 (rowsDims K M N wf) K rfl rfl).symm k) = ix2 k c := by
    funext a; apply Fin.ext
    match a with
    | ⟨0, _⟩ => exact hk
    | ⟨1, _⟩ => rfl
  rw [el, er]

end Cert.Moe

end
-- ==== Proof.Table.lean ====
/-
  The gathering table over the extended reals: its entry `(i, t)` is one exactly when token `t` goes to the peer's experts
  and `i` such tokens come before it. The rows and the assignments a device gathers with it, at the rows that hold a
  token.
-/
module

public import proofs.«01_k».proof.Proof.Values
public import proofs.«01_k».proof.Proof.Reads
public import Idealize.ShloMosaic.Lib.WordCmp

@[expose] public section

noncomputable section

namespace Cert.Moe

open Cert.KernelIdeal Cert.KernelIdeal.Gen
open Idealize.ShloMosaic Idealize.ShloMosaic.TcCoe Idealize.ShloMosaic.ValueIdx
open scoped BigOperators

/-- The half of the mesh a device is in. -/
def home (c : Dev nD) : ℕ := c.val / 4

/-- The half the program computes is that half. -/
theorem half_eq (c : Dev nD) : half c = BitVec.ofNat 32 (home c) := by revert c; decide

/-- The word of an expert of a device's half. -/
theorem expert_word (c : Dev nD) :
    Scalar.addi (Scalar.muli (half c) 2#32) 0#32 = BitVec.ofNat 32 (2 * home c)
      ∧ Scalar.addi (Scalar.muli (half c) 2#32) 1#32 = BitVec.ofNat 32 (2 * home c + 1) := by revert c; decide

/-- The bounds the program compares an assignment with. -/
theorem bounds_eq (c : Dev nD) :
    (Scalar.muli (Scalar.subi 1#32 (half c)) 2#32).toInt = 2 * (home (peer c) : ℤ)
      ∧ (Scalar.addi (Scalar.muli (Scalar.subi 1#32 (half c)) 2#32) 2#32).toInt = 2 * (home (peer c) : ℤ) + 2 := by
  revert c; decide

/-- An assignment names one of the peer's experts. -/
def goes (c : Dev nD) (w : BitVec 32) : Prop := 2 * (home (peer c) : ℤ) ≤ w.toInt ∧ w.toInt < 2 * (home (peer c) : ℤ) + 2

instance (c : Dev nD) (w : BitVec 32) : Decidable (goes c w) := by unfold goes; infer_instance

variable (I : Inp Ideal) (c : Dev nD) (a : Fin 512 → BitVec 32)

/-- The row of marks is one at the tokens that go to the peer. -/
theorem mrow_read (hrow : ∀ t, I.arow c (ix2 0 t) = a t) (t : Fin 512) :
    mrow I c (ix2 0 t) = if goes c (a t) then (1 : EReal) else 0 := by
  have h : mrow I c (ix2 0 t) = Scalar.select
      (IntOp.andi (IntOp.cmpi .sge (shapeCast S1x512 (I.arow c) shapeCasts_S1x512_S1x512 (ix2 0 t))
          (Scalar.muli (Scalar.subi 1#32 (half c)) 2#32))
        (IntOp.cmpi .slt (shapeCast S1x512 (I.arow c) shapeCasts_S1x512_S1x512 (ix2 0 t))
          (Scalar.addi (Scalar.muli (Scalar.subi 1#32 (half c)) 2#32) 2#32)))
      (Ideal.ofBits .f32 0x3F800000#32) (Ideal.ofBits .f32 0x00000000#32) := rfl
  rw [h, shapeCast_self, hrow, WordCmp.cmpi_sge_eq, WordCmp.cmpi_slt_eq, (bounds_eq c).1, (bounds_eq c).2,
    WordCmp.ofBool_decide_eq_ite, WordCmp.ofBool_decide_eq_ite, andi_ite, select_ite, Ideal.ofBits_one_f32, Ideal.ofBits_zero_f32]
  rfl

/-- The row number at an entry. -/
theorem iota_row {m n : ℕ} (h : (⟨2, ![m, n]⟩ : Shape).Iotas .tc 32 [0]) (i : Fin m) (j : Fin n) :
    iota .tc ⟨2, ![m, n]⟩ 32 [0] h (ix2 i j) = BitVec.ofNat 32 i.val := by
  rw [WordCmp.iota_at, List.foldl_cons, List.foldl_nil, Nat.zero_mul, Nat.zero_add]
  rfl
/-- The column number at an entry. -/
theorem iota_col {m n : ℕ} (h : (⟨2, ![m, n]⟩ : Shape).Iotas .tc 32 [1]) (i : Fin m) (j : Fin n) :
    iota .tc ⟨2, ![m, n]⟩ 32 [1] h (ix2 i j) = BitVec.ofNat 32 j.val := by
  rw [WordCmp.iota_at, List.foldl_cons, List.foldl_nil, Nat.zero_mul, Nat.zero_add]
  rfl

/-- The entry `(s, t)` of the triangle of ones: is `s` before `t`. -/
theorem tri_read (s t : Fin 512) : k0_pay2 (ix2 s t) = if s < t then 1#1 else 0#1 := by
  have h : k0_pay2 (ix2 s t) = IntOp.cmpi .slt (BitVec.ofNat 32 s.val) (BitVec.ofNat 32 t.val) := by
    rw [← iota_row iota_S512x512_d0_w32 s t, ← iota_col iota_S512x512_d1_w32 s t]; rfl
  rw [h, WordCmp.cmpi_slt_ofNat (by have := s.isLt; omega) (by have := t.isLt; omega), WordCmp.ofBool_decide_eq_ite]
  rfl

/-- Row `i`'s own number, as the program makes it. -/
theorem number_read (i : ℕ) (hi : i < 320) : (((BitVec.ofNat 32 i).toInt : ℝ) : EReal) = ((i : ℝ) : EReal) := by
  rw [WordCmp.toInt_ofNat_of_lt (by omega)]; simp

/-- The gathering table's entry. -/
theorem gat_read (hrow : ∀ t, I.arow c (ix2 0 t) = a t) (i : Fin 320) (t : Fin 512) :
    gat I c (ix2 i t) = pick (fun t => goes c (a t)) i.val t := by
  have h : gat I c (ix2 i t) = Scalar.select
      (IntOp.andi
        (Ideal.cmp .oeq
          (broadcastTo S320x512 (FloatOps.matmul (DotDims.plain 1 512 512) none (mrow I c)
              (select k0_pay2 (k0_pay3 (F := Ideal)) (broadcast S512x512 (zeroF (F := Ideal)))) (constant S1x512 .f32 0x00000000#32))
            broadcasts_S1x512_S320x512 (ix2 i t))
          (broadcastTo S320x512 (sitofp .f32 (iota .tc S320x1 32 [0] iota_S320x1_d0_w32) : FVec Ideal S320x1 .f32)
            broadcasts_S320x1_S320x512 (ix2 i t)))
        (broadcastTo S320x512 (cmpf .ogt (mrow I c) (broadcast S1x512 (Scalar.ofBits (F := Ideal) .f32 0x3F000000#32)))
          broadcasts_S1x512_S320x512 (ix2 i t)))
      (Ideal.ofBits .f32 0x3F800000#32) (Ideal.ofBits .f32 0x00000000#32) := rfl
  have hn : (sitofp .f32 (iota .tc S320x1 32 [0] iota_S320x1_d0_w32) : FVec Ideal S320x1 .f32) (ix2 i 0)
      = (((BitVec.ofNat 32 i.val).toInt : ℝ) : EReal) := by
    rw [← iota_row iota_S320x1_d0_w32 i 0]; rfl
  have hs : ∑ s, mrow I c (ix2 0 s)
        * select k0_pay2 (k0_pay3 (F := Ideal)) (broadcast S512x512 (zeroF (F := Ideal))) (ix2 s t)
      = (((rank (fun t => goes c (a t)) t : ℕ) : ℝ) : EReal) := by
    unfold rank
    rw [← sum_ite_one]
    refine Finset.sum_congr rfl fun s _ => ?_
    rw [mrow_read I c a hrow, select_apply, tri_read, select_ite]
    have h1 : (k0_pay3 (F := Ideal)) (ix2 s t) = (1 : EReal) := Ideal.ofBits_one_f32
    have h0 : broadcast S512x512 (zeroF (F := Ideal)) (ix2 s t) = (0 : EReal) := Ideal.ofBits_zero_f32
    rw [h1, h0]
    by_cases hl : s < t <;> by_cases hg : goes c (a s) <;> simp [hl, hg]
  have hc : cmpf .ogt (mrow I c) (broadcast S1x512 (Scalar.ofBits (F := Ideal) .f32 0x3F000000#32)) (ix2 0 t)
      = Ideal.cmp .ogt (mrow I c (ix2 0 t)) (Ideal.ofBits .f32 0x3F000000#32) := rfl
  rw [h, broadcastTo_1b_ab_apply, broadcastTo_1b_ab_apply, column_read, hn, product_read, hs, number_read _ i.isLt, hc,
    mrow_read I c a hrow, cmp_half, cmp_oeq, andi_ite, select_ite, Ideal.ofBits_one_f32, Ideal.ofBits_zero_f32]
  unfold pick
  refine if_congr ?_ rfl rfl
  rw [EReal.coe_eq_coe_iff, Nat.cast_inj, and_comm]

/-- A gathered row is the table's row against the tokens. -/
theorem xsv_read (n : Fin 4) (r : Fin 80) (k : Fin 512) (i : Fin 320) (hi : i.val = 80 * n.val + r.val) :
    xsv I c n (ix2 r k) = ∑ s, gat I c (ix2 i s) * I.x c (ix2 s k) := by
  have hx : ∀ s, xb I c (ix2 s k) = I.x c (ix2 s k) := fun s => by
    show shapeCast S512x512 (I.x c) shapeCasts_S512x512_S512x512 (ix2 s k) = _
    rw [shapeCast_self]
  have main : ∀ (o : ℕ) (h : S320x512.Slices ![o, 0] S80x512) (hc : S80x512.ShapeCasts S80x512), i.val = o + r.val →
      shapeCast S80x512 (truncf .bf16 (FloatOps.matmul (DotDims.plain 80 512 512) none
        (extractStridedSlice S80x512 ![o, 0] (gat I c) h) (xb I c) (constant S80x512 .f32 0x00000000#32)) bitsLt_bf16_f32
          : FVec Ideal S80x512 .bf16) hc (ix2 r k) = ∑ s, gat I c (ix2 i s) * I.x c (ix2 s k) := by
    intro o h hc ho
    rw [shapeCast_self, truncf_apply, product_read]
    refine Finset.sum_congr rfl fun s _ => ?_
    rw [slice2_axis0_apply o (gat I c) h r s i ho, hx]
  match n with
  | 0 => exact main 0 _ _ (by simpa using hi)
  | 1 => exact main 80 _ _ hi
  | 2 => exact main 160 _ _ hi
  | 3 => exact main 240 _ _ hi

/-- A gathered assignment is the table's row against the assignments. -/
theorem asgv_read (n : Fin 4) (r : Fin 80) (i : Fin 320) (hi : i.val = 80 * n.val + r.val) :
    asgv I c n (ix2 r 0) = ∑ s, gat I c (ix2 i s) * (((I.acol c (ix2 s 0)).toInt : ℝ) : EReal) := by
  have whole : asg I c (ix2 i 0) = ∑ s, gat I c (ix2 i s) * (((I.acol c (ix2 s 0)).toInt : ℝ) : EReal) := by
    show shapeCast S320x1 (FloatOps.matmul (DotDims.plain 320 512 1) none (gat I c)
      (sitofp .f32 (shapeCast S512x1 (I.acol c) shapeCasts_S512x1_S512x1) : FVec Ideal S512x1 .f32)
      (constant S320x1 .f32 0x00000000#32)) shapeCasts_S320x1_S320x1 (ix2 i 0) = _
    rw [shapeCast_self, shapeCast_self, product_read]
    rfl
  rw [← whole]
  match n with
  | 0 => exact congrArg (asg I c) (funext fun ax => Fin.ext (by match ax with | ⟨0, _⟩ => simp [hi] | ⟨1, _⟩ => rfl))
  | 1 => exact congrArg (asg I c) (funext fun ax => Fin.ext (by match ax with | ⟨0, _⟩ => simp [hi] | ⟨1, _⟩ => rfl))
  | 2 => exact congrArg (asg I c) (funext fun ax => Fin.ext (by match ax with | ⟨0, _⟩ => simp [hi] | ⟨1, _⟩ => rfl))
  | 3 => exact congrArg (asg I c) (funext fun ax => Fin.ext (by match ax with | ⟨0, _⟩ => simp [hi] | ⟨1, _⟩ => rfl))

end Cert.Moe

end
-- ==== Proof.Experts.lean ====
/-
  What the experts of a device contribute, over the extended reals: to the device's own tokens, and to the rows it
  receives; and the running output entry by entry.
-/
module

public import proofs.«01_k».proof.Proof.Table

@[expose] public section

noncomputable section

namespace Cert.Moe

open Cert.KernelIdeal Cert.KernelIdeal.Gen
open Idealize.ShloMosaic Idealize.ShloMosaic.TcCoe Idealize.ShloMosaic.ValueIdx
open scoped BigOperators

variable (I : Inp Ideal) (c : Dev nD)

/-- Expert `e` of a device on one token. -/
def expert (e : Fin 2) (x : Fin 512 → EReal) (j : Fin 512) : EReal :=
  ffn x (fun k h => I.w1 c (ix3 e k h)) (fun h j => I.w2 c (ix3 e h j)) j

/-- The first product's matrix of expert `e`, as the program cuts it out. -/
theorem w1_read (e : Fin 2) (o : ℕ) (he : e.val = o) (h : S2x512x1024.Slices ![o, 0, 0] S1x512x1024)
    (h' : S1x512x1024.ShapeCasts S512x1024) (k : Fin 512) (u : Fin 1024) :
    shapeCast S512x1024 (extractStridedSlice S1x512x1024 ![o, 0, 0] (w1b I c) h) h' (ix2 k u) = I.w1 c (ix3 e k u) := by
  rw [member_read o (w1b I c) h h' e he]
  show shapeCast S2x512x1024 (I.w1 c) shapeCasts_S2x512x1024_S2x512x1024 (ix3 e k u) = _
  rw [shapeCast_self]

/-- The second product's matrix of expert `e`, as the program cuts it out. -/
theorem w2_read (e : Fin 2) (o : ℕ) (he : e.val = o) (h : S2x1024x512.Slices ![o, 0, 0] S1x1024x512)
    (h' : S1x1024x512.ShapeCasts S1024x512) (u : Fin 1024) (j : Fin 512) :
    shapeCast S1024x512 (extractStridedSlice S1x1024x512 ![o, 0, 0] (w2b I c) h) h' (ix2 u j) = I.w2 c (ix3 e u j) := by
  rw [member_read o (w2b I c) h h' e he]
  show shapeCast S2x1024x512 (I.w2 c) shapeCasts_S2x1024x512_S2x1024x512 (ix3 e u j) = _
  rw [shapeCast_self]

/-- The two products of expert `e`, as the program runs them on rows a mask keeps. -/
theorem run_expert {M : ℕ} (e : Fin 2) (o : ℕ) (he : e.val = o) (b : IVec ⟨2, ![M, 512]⟩ 1) (x : FVec Ideal ⟨2, ![M, 512]⟩ .bf16)
    (h1 : S2x512x1024.Slices ![o, 0, 0] S1x512x1024) (h1' : S1x512x1024.ShapeCasts S512x1024)
    (h2 : S2x1024x512.Slices ![o, 0, 0] S1x1024x512) (h2' : S1x1024x512.ShapeCasts S1024x512)
    (h : FTy.bf16.bits < FTy.f32.bits) (q : Prop) [Decidable q] (r : Fin M) (j : Fin 512)
    (hb : ∀ k, b (ix2 r k) = if q then 1#1 else 0#1) :
    FloatOps.matmul (DotDims.plain M 1024 512) none
        (truncf .bf16 (maximumf (FloatOps.matmul (DotDims.plain M 512 1024) none
            (select b x (broadcast ⟨2, ![M, 512]⟩ (Scalar.ofBits (F := Ideal) .bf16 0x0000#16)))
            (shapeCast S512x1024 (extractStridedSlice S1x512x1024 ![o, 0, 0] (w1b I c) h1) h1')
            (constant ⟨2, ![M, 1024]⟩ .f32 0x00000000#32))
          (broadcast ⟨2, ![M, 1024]⟩ (Scalar.ofBits (F := Ideal) .f32 0x00000000#32))) h)
        (shapeCast S1024x512 (extractStridedSlice S1x1024x512 ![o, 0, 0] (w2b I c) h2) h2')
        (constant ⟨2, ![M, 512]⟩ .f32 0x00000000#32) (ix2 r j)
      = if q then expert I c e (fun k => x (ix2 r k)) j else 0 := by
  rw [expert_read b x _ _ h q r j hb]
  unfold expert
  simp only [w1_read I c e o he, w2_read I c e o he]

/-- A device's own experts on its own tokens. -/
theorem out0_read (t : Fin 512) (j : Fin 512) :
    out0 I c (ix2 t j)
      = (if I.acol c (ix2 t 0) = BitVec.ofNat 32 (2 * home c) then expert I c 0 (fun k => I.x c (ix2 t k)) j else 0)
        + (if I.acol c (ix2 t 0) = BitVec.ofNat 32 (2 * home c + 1) then expert I c 1 (fun k => I.x c (ix2 t k)) j else 0) := by
  have hx : ∀ k, xb I c (ix2 t k) = I.x c (ix2 t k) := fun k => by
    show shapeCast S512x512 (I.x c) shapeCasts_S512x512_S512x512 (ix2 t k) = _
    rw [shapeCast_self]
  have hm : ∀ (w : BitVec 32) k, broadcastTo S512x512 (shapeCast S512x1 (cmpi .eq
      (shapeCast S512x1 (I.acol c) shapeCasts_S512x1_S512x1) (broadcast S512x1 w)) shapeCasts_S512x1_S512x1)
      broadcasts_S512x1_S512x512 (ix2 t k) = if I.acol c (ix2 t 0) = w then 1#1 else 0#1 := fun w k => by
    rw [column_read, shapeCast_self, shapeCast_self, ← cmpi_eq_ite]; rfl
  have e0 := run_expert I c 0 0 rfl _ (xb I c) slices_S2x512x1024_o0_0_0_S1x512x1024 shapeCasts_S1x512x1024_S512x1024
    slices_S2x1024x512_o0_0_0_S1x1024x512 shapeCasts_S1x1024x512_S1024x512 bitsLt_bf16_f32 _ t j
    (hm (Scalar.addi (Scalar.muli (half c) 2#32) 0#32))
  have e1 := run_expert I c 1 1 rfl _ (xb I c) slices_S2x512x1024_o1_0_0_S1x512x1024 shapeCasts_S1x512x1024_S512x1024
    slices_S2x1024x512_o1_0_0_S1x1024x512 shapeCasts_S1x1024x512_S1024x512 bitsLt_bf16_f32 _ t j
    (hm (Scalar.addi (Scalar.muli (half c) 2#32) 1#32))
  simp only [hx] at e0 e1
  rw [← (expert_word c).1, ← (expert_word c).2, ← e0, ← e1]
  rfl

/-- A device's experts on a chunk of rows it receives. -/
def serve (x : Vec Ideal S80x512 .bf16) (g : Vec Ideal S80x1 .f32) : FVec Ideal S80x512 .bf16 :=
  k0_pay19 (half c) (w1b I c) (w2b I c) x g

/-- Every chunk is served the same way, however the program cuts the work. -/
theorem ret_eq (n : Fin 4) : ret I c n = serve I c (xsv I (peer c) n) (asgv I (peer c) n) := by
  match n with
  | 0 => rfl
  | 1 => rfl
  | 2 => rfl
  | 3 => rfl

/-- A served row is what the expert its assignment names makes of it. -/
theorem serve_read (x : Vec Ideal S80x512 .bf16) (g : Vec Ideal S80x1 .f32) (r : Fin 80) (j : Fin 512) (w : BitVec 32)
    (hw : g (ix2 r 0) = ((w.toInt : ℝ) : EReal)) :
    serve I c x g (ix2 r j)
      = (if w = BitVec.ofNat 32 (2 * home c) then expert I c 0 (fun k => x (ix2 r k)) j else 0)
        + (if w = BitVec.ofNat 32 (2 * home c + 1) then expert I c 1 (fun k => x (ix2 r k)) j else 0) := by
  have hm : ∀ (v : BitVec 32) k, broadcastTo S80x512 (shapeCast S80x1 (cmpf .oeq g
      (broadcast S80x1 (Scalar.sitofp (F := Ideal) .f32 v))) shapeCasts_S80x1_S80x1)
      broadcasts_S80x1_S80x512 (ix2 r k) = if w = v then 1#1 else 0#1 := fun v k => by
    rw [column_read, shapeCast_self]
    show Ideal.cmp .oeq (g (ix2 r 0)) ((v.toInt : ℝ) : EReal) = _
    rw [hw, cmp_oeq]
    exact if_congr (toInt_coe_eq w v) rfl rfl
  have e0 := run_expert I c 0 0 rfl _ x slices_S2x512x1024_o0_0_0_S1x512x1024 shapeCasts_S1x512x1024_S512x1024
    slices_S2x1024x512_o0_0_0_S1x1024x512 shapeCasts_S1x1024x512_S1024x512 bitsLt_bf16_f32 _ r j
    (hm (Scalar.addi (Scalar.muli (half c) 2#32) 0#32))
  have e1 := run_expert I c 1 1 rfl _ x slices_S2x512x1024_o1_0_0_S1x512x1024 shapeCasts_S1x512x1024_S512x1024
    slices_S2x1024x512_o1_0_0_S1x1024x512 shapeCasts_S1x1024x512_S1024x512 bitsLt_bf16_f32 _ r j
    (hm (Scalar.addi (Scalar.muli (half c) 2#32) 1#32))
  rw [← (expert_word c).1, ← (expert_word c).2, ← e0, ← e1]
  unfold serve k0_pay19
  exact congrFun (shapeCast_self _ shapeCasts_S80x512_S80x512) (ix2 r j)

/-- The rows returned to a device, put back at its tokens by one chunk of the table. -/
theorem add_read (o : ℕ) (h : S320x512.Slices ![o, 0] S80x512) (z : FVec Ideal S80x512 .bf16) (y : FVec Ideal S512x512 .f32)
    (p : ℕ → EReal) (t j : Fin 512) (hp : ∀ (r : Fin 80) (i : Fin 320), i.val = o + r.val → gat I c (ix2 i t) = p i.val)
    (ho : o ≤ 240) :
    addf (shapeCast S512x512 y shapeCasts_S512x512_S512x512)
        (FloatOps.matmul dot_S80x512_S80x512_S512x512_0_0_1_1_n_n none (extractStridedSlice S80x512 ![o, 0] (gat I c) h) z
          (constant S512x512 .f32 0x00000000#32)) (ix2 t j)
      = y (ix2 t j) + ∑ r : Fin 80, p (o + r.val) * z (ix2 r j) := by
  rw [shapeCast_self, addf_apply]
  refine congrArg (y (ix2 t j) + ·) ((back_read _ none _ z t j).trans (Finset.sum_congr rfl fun r _ => ?_))
  have hi : o + r.val < 320 := by have := r.isLt; omega
  rw [slice2_axis0_apply o (gat I c) h r t ⟨o + r.val, hi⟩ rfl, hp r ⟨o + r.val, hi⟩ rfl]

/-- The output: the device's own experts' part, then the four chunks of returned rows. -/
theorem out4_read (p : ℕ → EReal) (t j : Fin 512) (hp : ∀ i : Fin 320, gat I c (ix2 i t) = p i.val) :
    out4 I c (ix2 t j) = out0 I c (ix2 t j)
      + (∑ r : Fin 80, p r.val * ret I (peer c) 0 (ix2 r j) + ∑ r : Fin 80, p (80 + r.val) * ret I (peer c) 1 (ix2 r j)
        + ∑ r : Fin 80, p (160 + r.val) * ret I (peer c) 2 (ix2 r j) + ∑ r : Fin 80, p (240 + r.val) * ret I (peer c) 3 (ix2 r j)) := by
  have h1 := add_read I c 0 slices_S320x512_o0_0_S80x512 (ret I (peer c) 0) (out0 I c) p t j (fun _ i _ => hp i) (by norm_num)
  have h2 := add_read I c 80 slices_S320x512_o80_0_S80x512 (ret I (peer c) 1) (out1 I c) p t j (fun _ i _ => hp i) (by norm_num)
  have h3 := add_read I c 160 slices_S320x512_o160_0_S80x512 (ret I (peer c) 2) (out2 I c) p t j (fun _ i _ => hp i) (by norm_num)
  have h4 := add_read I c 240 slices_S320x512_o240_0_S80x512 (ret I (peer c) 3) (out3 I c) p t j (fun _ i _ => hp i) (by norm_num)
  simp only [Nat.zero_add] at h1
  rw [show out4 I c (ix2 t j) = _ from h4, show out3 I c (ix2 t j) = _ from h3, show out2 I c (ix2 t j) = _ from h2,
    show out1 I c (ix2 t j) = _ from h1]
  simp only [add_assoc]

end Cert.Moe

end
-- ==== Proof.Device.lean ====
/-
  The kernel's output on one device, over the extended reals: at each token, what the expert its assignment names makes of
  it, from the device's own two experts or from its peer's two, given that the tokens for the peer fit the exchange.
-/
module

public import proofs.«01_k».proof.Proof.Experts

@[expose] public section

noncomputable section

namespace Cert.Moe

open Cert.KernelIdeal Cert.KernelIdeal.Gen
open Idealize.ShloMosaic Idealize.ShloMosaic.TcCoe Idealize.ShloMosaic.ValueIdx
open scoped BigOperators

variable (I : Inp Ideal) (c : Dev nD) (a : Fin 512 → BitVec 32)

/-- A token on a device whose assignment is a given word: the part of the device's two experts. -/
def part (d : Dev nD) (w : BitVec 32) (x : Fin 512 → EReal) (j : Fin 512) : EReal :=
  (if w = BitVec.ofNat 32 (2 * home d) then expert I d 0 x j else 0)
    + (if w = BitVec.ofNat 32 (2 * home d + 1) then expert I d 1 x j else 0)

/-- The row returned for the gathered row `i`, by its number among all 320. -/
def returned (j : Fin 512) (i : ℕ) : EReal :=
  ret I (peer c) ⟨i / 80 % 4, Nat.mod_lt _ (by norm_num)⟩ (ix2 ⟨i % 80, Nat.mod_lt _ (by norm_num)⟩ j)

/-- The rows of a chunk by their numbers among all. -/
theorem returned_at (j : Fin 512) (n : Fin 4) (r : Fin 80) (i : ℕ) (hi : i = 80 * n.val + r.val) :
    returned I c j i = ret I (peer c) n (ix2 r j) := by
  have h1 : (⟨i / 80 % 4, Nat.mod_lt _ (by norm_num)⟩ : Fin 4) = n := Fin.ext (by
    have := r.isLt; have := n.isLt; show i / 80 % 4 = n.val; omega)
  have h2 : (⟨i % 80, Nat.mod_lt _ (by norm_num)⟩ : Fin 80) = r := Fin.ext (by
    have := r.isLt; show i % 80 = r.val; omega)
  unfold returned
  rw [h1, h2]

/-- The row returned at a token's rank is the peer's part at the token. -/
theorem returned_rank (hrow : ∀ t, I.arow c (ix2 0 t) = a t) (hcol : ∀ t, I.acol c (ix2 t 0) = a t) (t j : Fin 512)
    (ht : goes c (a t)) (hr : rank (fun t => goes c (a t)) t < 320) :
    returned I c j (rank (fun t => goes c (a t)) t) = part I (peer c) (a t) (fun k => I.x c (ix2 t k)) j := by
  have hn : rank (fun t => goes c (a t)) t / 80 < 4 := by omega
  have hs : rank (fun t => goes c (a t)) t % 80 < 80 := Nat.mod_lt _ (by norm_num)
  have hi : rank (fun t => goes c (a t)) t
      = 80 * (rank (fun t => goes c (a t)) t / 80) + rank (fun t => goes c (a t)) t % 80 := by omega
  rw [returned_at I c j ⟨_, hn⟩ ⟨_, hs⟩ _ hi, ret_eq, peer_peer,
    serve_read I (peer c) _ _ _ j (a t)]
  · have hx : ∀ k, xsv I c ⟨_, hn⟩ (ix2 ⟨_, hs⟩ k) = I.x c (ix2 t k) := fun k => by
      rw [xsv_read I c _ _ k ⟨_, hr⟩ hi]
      simp only [gat_read I c a hrow]
      exact sum_pick (fun t => goes c (a t)) ht fun s => I.x c (ix2 s k)
    simp only [hx]
    rfl
  · rw [asgv_read I c _ _ ⟨_, hr⟩ hi]
    simp only [gat_read I c a hrow, hcol]
    exact sum_pick (fun t => goes c (a t)) ht fun s => (((a s).toInt : ℝ) : EReal)

/-- **The output of one device**: its own experts' part and its peer's. -/
theorem device_read (hrow : ∀ t, I.arow c (ix2 0 t) = a t) (hcol : ∀ t, I.acol c (ix2 t 0) = a t)
    (hfit : (Finset.univ.filter fun t => goes c (a t)).card ≤ 320) (t j : Fin 512) :
    out4 I c (ix2 t j) = part I c (a t) (fun k => I.x c (ix2 t k)) j
      + if goes c (a t) then part I (peer c) (a t) (fun k => I.x c (ix2 t k)) j else 0 := by
  have hb : goes c (a t) → rank (fun t => goes c (a t)) t < 320 := fun ht => (rank_lt_card _ ht).trans_le hfit
  rw [out4_read I c (fun i => pick (fun t => goes c (a t)) i t) t j (fun i => gat_read I c a hrow i t), out0_read, hcol]
  have hsum := sum_unpick (m := 320) (fun t => goes c (a t)) t hb (returned I c j)
  rw [sum_four fun i => pick (fun t => goes c (a t)) i t * returned I c j i] at hsum
  simp only [fun r : Fin 80 => returned_at I c j 0 r r.val (by simp),
    fun r : Fin 80 => returned_at I c j 1 r (80 + r.val) rfl, fun r : Fin 80 => returned_at I c j 2 r (160 + r.val) rfl,
    fun r : Fin 80 => returned_at I c j 3 r (240 + r.val) rfl] at hsum
  rw [hsum]
  unfold part
  by_cases ht : goes c (a t)
  · rw [if_pos ht, if_pos ht, returned_rank I c a hrow hcol t j ht (hb ht)]
    rfl
  · rw [if_neg ht, if_neg ht]

end Cert.Moe

end
-- ==== Proof.Whole.lean ====
/-
  The reference over the extended reals: at each token, what the expert its assignment names makes of it, and zero when
  the assignment names none.
-/
module

public import proofs.«01_k».proof.Proof.Gen.ReferenceIdeal.Run
public import proofs.«01_k».proof.Proof.Reads
public import Idealize.ShloMosaic.Lib.StackMember
public import Idealize.ShloMosaic.Lib.WordCmp

@[expose] public section

noncomputable section

namespace Cert.Moe

open Cert.ReferenceIdeal Cert.ReferenceIdeal.Gen
open Idealize.ShloMosaic Idealize.ShloMosaic.TcCoe Idealize.ShloMosaic.ValueIdx
open scoped BigOperators

variable (X : FVec Ideal S1024x512 .f32) (A : IVec S1024 32) (W1 : FVec Ideal S4x512x1024 .f32) (W2 : FVec Ideal S4x1024x512 .f32)

/-- One expert's step of the reference: its rows replace the rows of the tokens assigned to it. -/
def refStep (w : BitVec 32) (o : ℕ) (h1 : S4x512x1024.Slices ![o, 0, 0] S1x512x1024) (h2 : S4x1024x512.Slices ![o, 0, 0] S1x1024x512)
    (acc : FVec Ideal S1024x512 .f32) : FVec Ideal S1024x512 .f32 :=
  select (broadcastInDim S1024x512 ![0, 1] bcast_S1024x1_S1024x512_0_1 (broadcastInDim S1024x1 ![0] bcast_S1024_S1024x1_0
      (cmpi .eq A (broadcastInDim S1024 ![] bcast_S_S1024 (constantI S_ 32 w)))))
    (Host.dotGeneral dot_S1024x1024_S1024x512_S1024x512_1_0_0_1_n_n none
      (maximumf (Host.dotGeneral dot_S1024x512_S512x1024_S1024x1024_1_0_0_1_n_n none X
          (shapeCast S512x1024 (extractStridedSlice S1x512x1024 ![o, 0, 0] W1 h1) shapeCasts_S1x512x1024_S512x1024))
        (broadcastInDim S1024x1024 ![] bcast_S_S1024x1024 (constant S_ .f32 0x00000000#32)))
      (shapeCast S1024x512 (extractStridedSlice S1x1024x512 ![o, 0, 0] W2 h2) shapeCasts_S1x1024x512_S1024x512))
    acc

/-- The reference's result. -/
def refOut : FVec Ideal S1024x512 .f32 :=
  refStep X A W1 W2 3#32 3 slices_S4x512x1024_S1x512x1024_3_0_0 slices_S4x1024x512_S1x1024x512_3_0_0
    (refStep X A W1 W2 2#32 2 slices_S4x512x1024_S1x512x1024_2_0_0 slices_S4x1024x512_S1x1024x512_2_0_0
      (refStep X A W1 W2 1#32 1 slices_S4x512x1024_S1x512x1024_1_0_0 slices_S4x1024x512_S1x1024x512_1_0_0
        (refStep X A W1 W2 0#32 0 slices_S4x512x1024_S1x512x1024_0_0_0 slices_S4x1024x512_S1x1024x512_0_0_0
          (broadcastInDim S1024x512 ![] bcast_S_S1024x512 (constant S_ .f32 0x00000000#32)))))

/-- Expert `e` of the whole stack on one token. -/
def wholeExpert (e : Fin 4) (x : Fin 512 → EReal) (j : Fin 512) : EReal :=
  ffn x (fun k h => W1 (ix3 e k h)) (fun h j => W2 (ix3 e h j)) j

/-- The mask of one step at an entry. -/
theorem refMask_read (w : BitVec 32) (t : Fin 1024) (j : Fin 512) :
    broadcastInDim S1024x512 ![0, 1] bcast_S1024x1_S1024x512_0_1 (broadcastInDim S1024x1 ![0] bcast_S1024_S1024x1_0
      (cmpi .eq A (broadcastInDim S1024 ![] bcast_S_S1024 (constantI S_ 32 w)))) (ix2 t j)
      = if A (ix1 t) = w then 1#1 else 0#1 := by
  rw [broadcastInDim_apply _ _ _ (ix2 t j) (ix2 t (0 : Fin 1)) (fun a => by match a with | ⟨0, _⟩ => rfl | ⟨1, _⟩ => rfl),
    broadcastInDim_apply _ _ _ (ix2 t (0 : Fin 1)) (ix1 t) (fun a => by match a with | ⟨0, _⟩ => rfl),
    ← cmpi_eq_ite]
  rfl

/-- One step of the reference at an entry. -/
theorem refStep_read (w : BitVec 32) (o : ℕ) (e : Fin 4) (he : e.val = o) (h1 : S4x512x1024.Slices ![o, 0, 0] S1x512x1024)
    (h2 : S4x1024x512.Slices ![o, 0, 0] S1x1024x512) (acc : FVec Ideal S1024x512 .f32) (t : Fin 1024) (j : Fin 512) :
    refStep X A W1 W2 w o h1 h2 acc (ix2 t j)
      = if A (ix1 t) = w then wholeExpert W1 W2 e (fun k => X (ix2 t k)) j else acc (ix2 t j) := by
  unfold refStep
  rw [select_apply, refMask_read, select_ite]
  refine if_congr Iff.rfl ?_ rfl
  refine (StackMember.dotGeneral_plain_apply none _ _ t j).trans ?_
  unfold wholeExpert ffn
  refine Finset.sum_congr rfl fun u _ => ?_
  rw [maximumf_apply, member_read o W2 h2 _ e he, broadcastInDim_scalar_apply, constant_apply, Ideal.ofBits_zero_f32]
  congr 2
  refine (StackMember.dotGeneral_plain_apply none _ _ t u).trans (Finset.sum_congr rfl fun k _ => ?_)
  rw [member_read o W1 h1 _ e he]

/-- **The reference at an entry.** -/
theorem refOut_read (t : Fin 1024) (j : Fin 512) :
    refOut X A W1 W2 (ix2 t j)
      = if A (ix1 t) = 3#32 then wholeExpert W1 W2 3 (fun k => X (ix2 t k)) j
        else if A (ix1 t) = 2#32 then wholeExpert W1 W2 2 (fun k => X (ix2 t k)) j
        else if A (ix1 t) = 1#32 then wholeExpert W1 W2 1 (fun k => X (ix2 t k)) j
        else if A (ix1 t) = 0#32 then wholeExpert W1 W2 0 (fun k => X (ix2 t k)) j else 0 := by
  unfold refOut
  rw [refStep_read X A W1 W2 3#32 3 3 rfl, refStep_read X A W1 W2 2#32 2 2 rfl, refStep_read X A W1 W2 1#32 1 1 rfl,
    refStep_read X A W1 W2 0#32 0 0 rfl, broadcastInDim_scalar_apply, constant_apply, Ideal.ofBits_zero_f32]

end Cert.Moe

end
-- ==== Proof.Equation.lean ====
/-
  The equation: on the block of the whole inputs each device holds, the kernel's output is its block of the reference's
  result.
-/
module

public import proofs.«01_k».proof.Proof.Device
public import proofs.«01_k».proof.Proof.Whole
public import Idealize.ShloMosaic.Lib.Layout

@[expose] public section

noncomputable section

namespace Cert.Moe

open Cert.KernelIdeal (nD)
open Idealize.ShloMosaic Idealize.ShloMosaic.ValueIdx

/-- A device's half is the first or the second, and its peer's is the other. -/
theorem home_cases (c : Dev nD) : (home c = 0 ∧ home (peer c) = 1) ∨ (home c = 1 ∧ home (peer c) = 0) := by
  revert c; decide

/-- The row of the whole batch a device's row is. -/
def rowOf (c : Dev nD) (t : Fin 512) : Fin 1024 := ⟨home c * 512 + t.val, by
  have := t.isLt; rcases home_cases c with h | h <;> omega⟩

/-- The expert of the whole stack a device's expert is. -/
def expertOf (c : Dev nD) (e : Fin 2) : Fin 4 := ⟨home c * 2 + e.val, by
  have := e.isLt; rcases home_cases c with h | h <;> omega⟩

/-- The block's coordinate along the axis that is cut is the device's half. -/
theorem cut_eq (c : Dev nD) : Layout.meshLin [2, 2, 2] c.val [0] = home c := by revert c; decide

section Blocks

variable {α : Type}

/-- A device's block of a matrix cut by rows. -/
theorem block_rows (c : Dev nD) (X : (⟨2, ![1024, 512]⟩ : Shape).Idx → α) (t : Fin 512) (k : Fin 512) :
    Layout.blockN ⟨2, ![512, 512]⟩ ⟨2, ![1024, 512]⟩ (Layout.meshBlock [2, 2, 2] ![[0], []] c) X (by decide) (ix2 t k)
      = X (ix2 (rowOf c t) k) := by
  rw [Layout.blockN_apply]
  refine congrArg X (funext fun b => Fin.ext ?_)
  match b with
  | ⟨0, _⟩ => exact congrArg (fun n => n * 512 + t.val) (cut_eq c)
  | ⟨1, _⟩ => exact (by omega : 0 * 512 + k.val = k.val)

/-- A device's block of a vector. -/
theorem block_vec (c : Dev nD) (A : (⟨1, ![1024]⟩ : Shape).Idx → α) (t : Fin 512) :
    Layout.blockN ⟨1, ![512]⟩ ⟨1, ![1024]⟩ (Layout.meshBlock [2, 2, 2] ![[0]] c) A (by decide) (ix1 t)
      = A (ix1 (rowOf c t)) := by
  rw [Layout.blockN_apply]
  refine congrArg A (funext fun b => Fin.ext ?_)
  match b with
  | ⟨0, _⟩ => exact congrArg (fun n => n * 512 + t.val) (cut_eq c)

/-- A device's block of a stack of first weights, -/
theorem block_w1 (c : Dev nD) (W : (⟨3, ![4, 512, 1024]⟩ : Shape).Idx → α) (e : Fin 2) (k : Fin 512) (h : Fin 1024) :
    Layout.blockN ⟨3, ![2, 512, 1024]⟩ ⟨3, ![4, 512, 1024]⟩ (Layout.meshBlock [2, 2, 2] ![[0], [], []] c) W (by decide) (ix3 e k h)
      = W (ix3 (expertOf c e) k h) := by
  rw [Layout.blockN_apply]
  refine congrArg W (funext fun b => Fin.ext ?_)
  match b with
  | ⟨0, _⟩ => exact congrArg (fun n => n * 2 + e.val) (cut_eq c)
  | ⟨1, _⟩ => exact (by omega : 0 * 512 + k.val = k.val)
  | ⟨2, _⟩ => exact (by omega : 0 * 1024 + h.val = h.val)

/-- and of a stack of second weights. -/
theorem block_w2 (c : Dev nD) (W : (⟨3, ![4, 1024, 512]⟩ : Shape).Idx → α) (e : Fin 2) (h : Fin 1024) (j : Fin 512) :
    Layout.blockN ⟨3, ![2, 1024, 512]⟩ ⟨3, ![4, 1024, 512]⟩ (Layout.meshBlock [2, 2, 2] ![[0], [], []] c) W (by decide) (ix3 e h j)
      = W (ix3 (expertOf c e) h j) := by
  rw [Layout.blockN_apply]
  refine congrArg W (funext fun b => Fin.ext ?_)
  match b with
  | ⟨0, _⟩ => exact congrArg (fun n => n * 2 + e.val) (cut_eq c)
  | ⟨1, _⟩ => exact (by omega : 0 * 1024 + h.val = h.val)
  | ⟨2, _⟩ => exact (by omega : 0 * 512 + j.val = j.val)

end Blocks

/-- An assignment goes to the peer when it names one of the two experts of the peer's half. -/
theorem goes_iff (c : Dev nD) (w : BitVec 32) :
    goes c w ↔ w = BitVec.ofNat 32 (2 * home (peer c)) ∨ w = BitVec.ofNat 32 (2 * home (peer c) + 1) := by
  have e : ∀ v : BitVec 32, w = v ↔ w.toInt = v.toInt := fun v => ⟨fun h => h ▸ rfl, BitVec.eq_of_toInt_eq⟩
  unfold goes
  rw [e, e]
  rcases home_cases c with ⟨_, h⟩ | ⟨_, h⟩ <;> rw [h]
  · rw [show (BitVec.ofNat 32 (2 * 1)).toInt = 2 from by decide, show (BitVec.ofNat 32 (2 * 1 + 1)).toInt = 3 from by decide]
    push_cast; omega
  · rw [show (BitVec.ofNat 32 (2 * 0)).toInt = 0 from by decide, show (BitVec.ofNat 32 (2 * 0 + 1)).toInt = 1 from by decide]
    push_cast; omega

section Equation

variable (I : Inp Ideal) (X : FVec Ideal ⟨2, ![1024, 512]⟩ .f32) (A : IVec ⟨1, ![1024]⟩ 32)
  (W1 : FVec Ideal ⟨3, ![4, 512, 1024]⟩ .f32) (W2 : FVec Ideal ⟨3, ![4, 1024, 512]⟩ .f32)

/-- A device's expert is an expert of the whole stack. -/
theorem expert_whole (d : Dev nD) (e : Fin 2)
    (h1 : ∀ k h, I.w1 d (ix3 e k h) = W1 (ix3 (expertOf d e) k h)) (h2 : ∀ h j, I.w2 d (ix3 e h j) = W2 (ix3 (expertOf d e) h j))
    (x : Fin 512 → EReal) (j : Fin 512) : expert I d e x j = wholeExpert W1 W2 (expertOf d e) x j := by
  unfold expert wholeExpert
  simp only [h1, h2]

/-- **The equation**: a device's output is its rows of the reference's result. -/
theorem out_block (c : Dev nD)
    (hx : ∀ t k, I.x c (ix2 t k) = X (ix2 (rowOf c t) k))
    (hrow : ∀ t, I.arow c (ix2 0 t) = A (ix1 (rowOf c t))) (hcol : ∀ t, I.acol c (ix2 t 0) = A (ix1 (rowOf c t)))
    (h1 : ∀ d e k h, I.w1 d (ix3 e k h) = W1 (ix3 (expertOf d e) k h))
    (h2 : ∀ d e h j, I.w2 d (ix3 e h j) = W2 (ix3 (expertOf d e) h j))
    (hfit : (Finset.univ.filter fun t => goes c (A (ix1 (rowOf c t)))).card ≤ 320) (t j : Fin 512) :
    out4 I c (ix2 t j) = refOut X A W1 W2 (ix2 (rowOf c t) j) := by
  rw [device_read I c (fun t => A (ix1 (rowOf c t))) hrow hcol hfit t j, refOut_read]
  simp only [hx, goes_iff]
  generalize A (ix1 (rowOf c t)) = w
  generalize (fun k => X (ix2 (rowOf c t) k)) = x
  unfold part
  simp only [expert_whole I W1 W2 _ _ (h1 _ _) (h2 _ _)]
  have ex : ∀ d e n, home d * 2 + e.val = n.val → expertOf d e = n := fun d e n h => Fin.ext h
  rcases home_cases c with ⟨h, h'⟩ | ⟨h, h'⟩ <;> rw [h, h']
  · rw [ex c 0 0 (by rw [h]; rfl), ex c 1 1 (by rw [h]; rfl), ex (peer c) 0 2 (by rw [h']; rfl), ex (peer c) 1 3 (by rw [h']; rfl)]
    by_cases e3 : w = 3#32
    · subst e3; simp
    by_cases e2 : w = 2#32
    · subst e2; simp
    by_cases e1 : w = 1#32
    · subst e1; simp
    by_cases e0 : w = 0#32
    · subst e0; simp
    simp [e0, e1, e2, e3]
  · rw [ex c 0 2 (by rw [h]; rfl), ex c 1 3 (by rw [h]; rfl), ex (peer c) 0 0 (by rw [h']; rfl), ex (peer c) 1 1 (by rw [h']; rfl)]
    by_cases e3 : w = 3#32
    · subst e3; simp
    by_cases e2 : w = 2#32
    · subst e2; simp
    by_cases e1 : w = 1#32
    · subst e1; simp
    by_cases e0 : w = 0#32
    · subst e0; simp
    simp [e0, e1, e2, e3]

end Equation

end Cert.Moe

end
-- ==== Proof.Fit.lean ====
/-
  The precondition read as a bound: on every device at most 320 tokens go to its peer.
-/
module

public import proofs.«01_k».proof.Proof.Table
public import proofs.«01_k».proof.Proof.Gen.Pre_fits_KernelIdeal
public import Idealize.ShloMosaic.Lib.IndicatorCount

@[expose] public section

noncomputable section

namespace Cert.Moe

open Cert.Pre_fits_KernelIdeal Cert.Pre_fits_KernelIdeal.Gen
open Idealize.ShloMosaic Idealize.ShloMosaic.ValueIdx

/-- The conjunction of two bits is one only when both are. -/
theorem andi_one {x y : BitVec 1} (h : IntOp.andi x y = 1#1) : x = 1#1 ∧ y = 1#1 := by
  revert h; revert x y; decide

/-- One half of the precondition: the number of tokens whose assignment lies between two bounds is at most 320. -/
theorem count_le (A : IVec S512 32) (lo hi : BitVec 32)
    (h : IntOp.cmpi .sle (Host.reduce IntOp.addi (extui 32 (andi (cmpi .sge A (broadcastInDim S512 ![] bcast_S_S512 (constantI S_ 32 lo)))
        (cmpi .slt A (broadcastInDim S512 ![] bcast_S_S512 (constantI S_ 32 hi)))) natLt_1_32) (constantI S_ 32 0#32)
        reducesTo_S512_S_d0 h_S_ ix0) 320#32 = 1#1) :
    (Finset.univ.filter fun t : Fin 512 => lo.toInt ≤ (A (ix1 t)).toInt ∧ (A (ix1 t)).toInt < hi.toInt).card ≤ 320 := by
  let q : S512.Idx → Prop := fun i => lo.toInt ≤ (A i).toInt ∧ (A i).toInt < hi.toInt
  rw [Host.reduce_eq_fold IntOp.addi, Finset.filter_true_of_mem fun i _ => funext fun a => a.elim0] at h
  have hf : extui 32 (andi (cmpi .sge A (broadcastInDim S512 ![] bcast_S_S512 (constantI S_ 32 lo)))
        (cmpi .slt A (broadcastInDim S512 ![] bcast_S_S512 (constantI S_ 32 hi)))) natLt_1_32
      = fun i => (if q i then 1#1 else 0#1 : BitVec 1).setWidth 32 := by
    funext i
    show (IntOp.andi (IntOp.cmpi .sge (A i) lo) (IntOp.cmpi .slt (A i) hi)).setWidth 32 = _
    rw [WordCmp.cmpi_sge_eq, WordCmp.cmpi_slt_eq, WordCmp.ofBool_decide_eq_ite, WordCmp.ofBool_decide_eq_ite, andi_ite]
  rw [hf] at h
  have hc := IndicatorCount.fold_addi_setWidth_eq_card (w := 32) (fun i => (if q i then 1#1 else 0#1 : BitVec 1)) Finset.univ
  have hb : (Finset.univ.filter fun i => (if q i then 1#1 else 0#1 : BitVec 1) = 1#1) = Finset.univ.filter q :=
    Finset.filter_congr fun i _ => by split <;> simp_all
  rw [hb] at hc
  have hm : (Finset.univ.filter q).card = (Finset.univ.filter fun t : Fin 512 => q (ix1 t)).card := by
    refine (Finset.card_bij (fun t _ => ix1 t) (fun t ht => by simpa using ht) (fun (t : Fin 512) _ (u : Fin 512) _ (e : ix1 t = ix1 u) => Fin.ext (congrArg (fun i : S512.Idx => (i 0).val) e)) fun i hi => ?_).symm
    refine ⟨i 0, ?_, (eq_ix1 i).symm⟩
    have h1 := (Finset.mem_filter.mp hi).2
    rw [eq_ix1 i] at h1
    exact Finset.mem_filter.mpr ⟨Finset.mem_univ _, h1⟩
  have h' : IntOp.cmpi .sle (BitVec.ofNat 32 (Finset.univ.filter q).card) (BitVec.ofNat 32 320) = 1#1 := by
    rw [← hc]; exact h
  have hsz : (Finset.univ.filter q).card ≤ 512 := by
    rw [hm]
    simpa using Finset.card_filter_le (Finset.univ : Finset (Fin 512)) fun t => q (ix1 t)
  exact hm ▸ (WordCmp.cmpi_sle_ofNat_eq_one_iff (by omega) (by norm_num)).mp h'

/-- **The precondition**: at most 320 of a device's tokens go to its peer. -/
theorem fits_count (c : Dev Cert.KernelIdeal.nD) (x : FVec Ideal S512x512 .f32) (A : IVec S512 32)
    (w1 : FVec Ideal S2x512x1024 .f32) (w2 : FVec Ideal S2x1024x512 .f32)
    (h : Cert.Pre_fits_KernelIdeal.fn (F := Ideal) x A w1 w2 = fun _ => 1#1) :
    (Finset.univ.filter fun t : Fin 512 => goes c (A (ix1 t))).card ≤ 320 := by
  obtain ⟨h0, h1⟩ := andi_one (congrFun h ix0)
  have hc : home (peer c) = 0 ∨ home (peer c) = 1 := by revert c; decide
  rcases hc with hc | hc
  · have := count_le A 0#32 2#32 h0
    simpa [goes, hc] using this
  · have := count_le A 2#32 4#32 h1
    simpa [goes, hc] using this

end Cert.Moe

end
-- ==== Proof.Algebraic.lean ====
/-
  The algebraic claim: over the extended reals, from a whole batch and its blocks, the kernel leaves on every device its
  block of what the reference leaves.
-/
module

public import proofs.«01_k».proof.Defs
public import proofs.«01_k».proof.Proof.Run
public import proofs.«01_k».proof.Proof.Equation
public import proofs.«01_k».proof.Proof.Fit
public import proofs.«01_k».proof.Proof.Gen.ReferenceIdeal.Run
public import Idealize.ShloMosaic.Lib.ValueLayoutCasts

@[expose] public section

noncomputable section

namespace Cert.Moe

open Cert.KernelIdeal Cert.KernelIdeal.Gen
open Idealize.ShloMosaic hiding ix1 ix2 ix3 eq_ix2
open Idealize.ShloMosaic.TcCoe Idealize.ShloMosaic.ValueIdx Idealize.SL.Sem

variable (m : (ℓ : Loc nD τ sig) → Buf (Elt Ideal) ℓ)

/-- The assignments as a column hold the device's assignments, -/
theorem acol_read (c : Dev nD) (t : Fin 512) : (inp m).acol c (ix2 t 0) = m ((c : Thread nD τ).loc main_arg1) (ix1 t) := by
  have h : (inp m).acol c = shapeCast S512x1 (m ((c : Thread nD τ).loc main_arg1)) shapeCasts_S512_S512x1 := by
    show V m c main_v1 = _
    simp only [V, hostOps0]
    after_results_simp <;> rfl
  rw [h]
  exact shapeCast_a_a1_apply _ _ _ _

/-- and so do the assignments as a row. -/
theorem arow_read (c : Dev nD) (t : Fin 512) : (inp m).arow c (ix2 0 t) = m ((c : Thread nD τ).loc main_arg1) (ix1 t) := by
  have h : (inp m).arow c = shapeCast S1x512 (m ((c : Thread nD τ).loc main_arg1)) shapeCasts_S512_S1x512 := by
    show V m c main_v2 = _
    simp only [V, hostOps0]
    after_results_simp <;> rfl
  rw [h]
  exact shapeCast_a_1a_apply _ _ _ _

/-- Every entry of a device's block of the result is the device's. -/
theorem out_blockN (c : Dev nD) (I : Inp Ideal) (R : FVec Ideal ⟨2, ![1024, 512]⟩ .f32)
    (h : ∀ t j, out4 I c (ix2 t j) = R (ix2 (rowOf c t) j)) :
    out4 I c = Layout.blockN ⟨2, ![512, 512]⟩ ⟨2, ![1024, 512]⟩ (Layout.meshBlock [2, 2, 2] ![[0], []] c) R (by decide) := by
  funext i
  rw [eq_ix2 i]
  exact (h (i 0) (i 1)).trans (block_rows c R (i 0) (i 1)).symm

/-- **The algebraic claim.** -/
theorem algebraic : Cert.algebraic_KernelIdeal_ReferenceIdeal_pre_fits_KernelIdeal := by
  intro m g m' g' hpre hin
  refine ⟨refOut (m' (((0 : Dev 1) : Thread Cert.ReferenceIdeal.nD Cert.ReferenceIdeal.τ).loc Cert.ReferenceIdeal.main_arg0))
    (m' (((0 : Dev 1) : Thread Cert.ReferenceIdeal.nD Cert.ReferenceIdeal.τ).loc Cert.ReferenceIdeal.main_arg1))
    (m' (((0 : Dev 1) : Thread Cert.ReferenceIdeal.nD Cert.ReferenceIdeal.τ).loc Cert.ReferenceIdeal.main_arg2))
    (m' (((0 : Dev 1) : Thread Cert.ReferenceIdeal.nD Cert.ReferenceIdeal.τ).loc Cert.ReferenceIdeal.main_arg3)), ?_, ?_⟩
  · refine (θ_run Cert.KernelIdeal.defs _ _).mono (fun r h c => ⟨(h.1 c).1.trans ?_, (h.1 c).2⟩) (run_main (F := Ideal) m g)
    have ha : ∀ (d : Dev nD) t, m ((d : Thread nD τ).loc main_arg1) (ix1 t) = _ := fun d t =>
      (congrFun (hin d).2.1 (ix1 t)).trans (block_vec d _ t)
    refine out_blockN c (inp m) _ fun t j => out_block (inp m) _ _ _ _ c
      (fun t k => (congrFun (hin c).1 (ix2 t k)).trans (block_rows c _ t k))
      (fun t => (arow_read m c t).trans (ha c t)) (fun t => (acol_read m c t).trans (ha c t))
      (fun d e k h => (congrFun (hin d).2.2.1 (ix3 e k h)).trans (block_w1 d _ e k h))
      (fun d e h j => (congrFun (hin d).2.2.2 (ix3 e h j)).trans (block_w2 d _ e h j)) ?_ t j
    have hf := fits_count c _ _ _ _ (hpre c)
    simpa only [ha] using hf
  · exact (θ_run Cert.ReferenceIdeal.defs _ _).mono (fun r h => ⟨(h 0).1, (h 0).2⟩) (Cert.ReferenceIdeal.Value.run (F := Ideal) m' g')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_fits_KernelIdeal
public import proofs.«01_k».proof.Proof.Gen.Pre_fits_ReferenceIdeal
public import proofs.«01_k».proof.Proof.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The two programs' tables of kernels are one, -/
theorem defs₀_eq : Cert.Kernel.defs₀ (F := Bits) = Cert.KernelIdeal.defs₀ (F := Bits) :=
  congrArg Defs.onTc (funext fun l => match l with | 0 => funext fun (t, s) => rfl | ⟨_ + 1, h⟩ => absurd h (Nat.not_lt.2 (Nat.le_add_left _ _)))
/-- and so are their whole tables. -/
theorem defs_eq : Cert.Kernel.defs (F := Bits) = Cert.KernelIdeal.defs (F := Bits) := congrArg (Pipeline.defs Cert.KernelIdeal.pcfgs) defs₀_eq

/-- The kernel as written terminates with its arguments unchanged and every counter at zero. -/
theorem frame_kernel : Cert.quiescent_Kernel := fun m ρ _ => by
  rw [defs_eq]
  exact (θ_run (Cert.KernelIdeal.defs (F := Bits)) _ _).mono (fun _ h => ⟨fun c => (h.1 c).2, h.2⟩) (Cert.Moe.run_main (F := Bits) m ρ)

/-- So does its idealization, -/
theorem frame_ideal : Cert.quiescent_KernelIdeal := fun m ρ _ =>
  (θ_run Cert.KernelIdeal.defs _ _).mono (fun _ h => ⟨fun c => (h.1 c).2, h.2⟩) (Cert.Moe.run_main (F := Ideal) m ρ)

/-- under the precondition as well. -/
theorem frame_ideal_pre : Cert.quiescent_KernelIdeal_pre_fits_KernelIdeal := fun m ρ _ => frame_ideal m ρ trivial

/-- The reference terminates with its arguments unchanged. -/
theorem frame_reference : Cert.quiescent_ReferenceIdeal := fun m ρ _ =>
  (θ_run Cert.ReferenceIdeal.defs _ _).mono (fun _ h => ⟨fun c => (h c).2, Idealize.ShloMosaic.sem_eq_zero_of_no_sems (by decide) _⟩) (Cert.ReferenceIdeal.Value.run (F := Ideal) m ρ)

/-- Everything claimed of the kernel, its idealization and the reference. -/
theorem claim : Cert.Claim := ⟨Cert.Kernel.Gen.facts, Cert.KernelIdeal.Gen.facts, Cert.ReferenceIdeal.Gen.facts, Cert.Pre_fits_KernelIdeal.Gen.facts, Cert.Pre_fits_ReferenceIdeal.Gen.facts,
  frame_kernel, frame_ideal, frame_ideal_pre, frame_reference, fun m ρ _ => frame_reference m ρ trivial, trivial, Cert.Moe.algebraic⟩

end Cert.Proof

end
